-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_finite_maximum [hPre_rows_have_a_finite_maximum : Cert.Pre_rows_have_a_finite_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_finite_maximum.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_finite_maximum [hPre_rows_have_a_finite_maximum : Cert.Pre_rows_have_a_finite_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_finite_maximum.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_a_finite_maximum [hKernelIdeal : Cert.KernelIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_finite_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_a_finite_maximum [hReferenceIdeal : Cert.ReferenceIdeal.Facts] [hPre_rows_have_a_finite_maximum : Cert.Pre_rows_have_a_finite_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_finite_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_have_a_finite_maximum [hKernelIdeal : Cert.KernelIdeal.Facts] [hReferenceIdeal : Cert.ReferenceIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_finite_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_a_finite_maximum : Cert.Pre_rows_have_a_finite_maximum.Facts),
    quiescent_Kernel (hKernel := hKernel)
    ∧ quiescent_KernelIdeal (hKernelIdeal := hKernelIdeal)
    ∧ quiescent_KernelIdeal_pre_rows_have_a_finite_maximum (hKernelIdeal := hKernelIdeal) (hPre_rows_have_a_finite_maximum := hPre_rows_have_a_finite_maximum)
    ∧ quiescent_ReferenceIdeal (hReferenceIdeal := hReferenceIdeal)
    ∧ quiescent_ReferenceIdeal_pre_rows_have_a_finite_maximum (hReferenceIdeal := hReferenceIdeal) (hPre_rows_have_a_finite_maximum := hPre_rows_have_a_finite_maximum)
    ∧ preserves_Kernel_KernelIdeal
    ∧ algebraic_KernelIdeal_ReferenceIdeal_pre_rows_have_a_finite_maximum (hKernelIdeal := hKernelIdeal) (hReferenceIdeal := hReferenceIdeal) (hPre_rows_have_a_finite_maximum := hPre_rows_have_a_finite_maximum)
-- ==== Pre_rows_have_a_finite_maximum.lean ====
abbrev S32x128x128x8 : Shape := ⟨4, ![32, 128, 128, 8]⟩
abbrev S_ : Shape := ⟨0, ![]⟩
abbrev S32x8 : Shape := ⟨2, ![32, 8]⟩

class Facts : Prop where
  reducesTo_S32x128x128x8_S32x8_d1_2 : S32x128x128x8.ReducesTo [1, 2] S32x8
  h_S_ : 0 < S_.numel
  bcast_S_S32x8 : S_.BroadcastsInDim S32x8 (![] : Fin 0 → Fin S32x8.rank)

variable [Facts]

def fn {F : FTy → Type} [FloatOps F] (main_arg0 : FVec F S32x128x128x8 .f32) : IVec S32x8 1 :=
  let main_cst : FVec F S_ .f32 := constant S_ .f32 0xFF800000#32
  let main_v0 : FVec F S32x8 .f32 := (fun x v => Host.reduce FloatOps.maximumf x v reducesTo_S32x128x128x8_S32x8_d1_2 h_S_) main_arg0 main_cst
  let main_cst_0 : FVec F S_ .f32 := constant S_ .f32 0xFF800000#32
  let main_v1 : FVec F S32x8 .f32 := broadcastInDim S32x8 ![] bcast_S_S32x8 main_cst_0
  let main_v2 : IVec S32x8 1 := cmpf .ogt main_v0 main_v1
  let main_cst_1 : FVec F S_ .f32 := constant S_ .f32 0x7F800000#32
  let main_v3 : FVec F S32x8 .f32 := broadcastInDim S32x8 ![] bcast_S_S32x8 main_cst_1
  let main_v4 : IVec S32x8 1 := cmpf .olt main_v0 main_v3
  let main_v5 : IVec S32x8 1 := andi main_v2 main_v4
  main_v5
-- ==== Kernel.lean ====
abbrev S32x128x128x8 : Shape := ⟨4, ![32, 128, 128, 8]⟩
abbrev S32x8x128x128 : Shape := ⟨4, ![32, 8, 128, 128]⟩
abbrev S256x16384 : Shape := ⟨2, ![256, 16384]⟩
abbrev S_ : Shape := ⟨0, ![]⟩
abbrev S1 : Shape := ⟨1, ![1]⟩
abbrev S2 : Shape := ⟨1, ![2]⟩
abbrev S1x1 : Shape := ⟨2, ![1, 1]⟩
abbrev S64x16384 : Shape := ⟨2, ![64, 16384]⟩
abbrev S64x1 : Shape := ⟨2, ![64, 1]⟩
abbrev S64x4096 : Shape := ⟨2, ![64, 4096]⟩
abbrev S64 : Shape := ⟨1, ![64]⟩
abbrev S1x64x1 : Shape := ⟨3, ![1, 64, 1]⟩
abbrev S1x1x1 : Shape := ⟨3, ![1, 1, 1]⟩

abbrev nBuf : Space → Nat
  | .hbm => 283
  | .vmem => 9
  | .smem => 0
  | _ => 0

abbrev hbmTy0_0 (i : Nat) : BufTy := match i % 128 with
  | 0 => ⟨S32x128x128x8, .f32⟩
  | 1 => ⟨S32x8x128x128, .f32⟩
  | 2 => ⟨S256x16384, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S256x16384, .i64⟩
  | 23 => ⟨S256x16384, .i64⟩
  | 24 => ⟨S_, .i64⟩
  | 25 => ⟨S256x16384, .i64⟩
  | 26 => ⟨S256x16384, .i64⟩
  | 27 => ⟨S_, .i64⟩
  | 28 => ⟨S256x16384, .i64⟩
  | 29 => ⟨S256x16384, .i64⟩
  | 30 => ⟨S256x16384, .i64⟩
  | 31 => ⟨S_, .i64⟩
  | 32 => ⟨S256x16384, .i64⟩
  | 33 => ⟨S256x16384, .i64⟩
  | 34 => ⟨S256x16384, .i32⟩
  | 35 => ⟨S256x16384, .i32⟩
  | 36 => ⟨S_, .i32⟩
  | 37 => ⟨S_, .i32⟩
  | 38 => ⟨S_, .i32⟩
  | 39 => ⟨S256x16384, .i32⟩
  | 40 => ⟨S256x16384, .i32⟩
  | 41 => ⟨S256x16384, .i32⟩
  | 42 => ⟨S256x16384, .i32⟩
  | 43 => ⟨S256x16384, .i32⟩
  | 44 => ⟨S_, .i32⟩
  | 45 => ⟨S256x16384, .i32⟩
  | 46 => ⟨S256x16384, .i32⟩
  | 47 => ⟨S_, .i32⟩
  | 48 => ⟨S256x16384, .i32⟩
  | 49 => ⟨S256x16384, .i32⟩
  | 50 => ⟨S256x16384, .i32⟩
  | 51 => ⟨S256x16384, .i32⟩
  | 52 => ⟨S256x16384, .i32⟩
  | 53 => ⟨S_, .i32⟩
  | 54 => ⟨S256x16384, .i32⟩
  | 55 => ⟨S256x16384, .i32⟩
  | 56 => ⟨S_, .i32⟩
  | 57 => ⟨S256x16384, .i32⟩
  | 58 => ⟨S256x16384, .i32⟩
  | 59 => ⟨S256x16384, .i32⟩
  | 60 => ⟨S256x16384, .i32⟩
  | 61 => ⟨S256x16384, .i32⟩
  | 62 => ⟨S_, .i32⟩
  | 63 => ⟨S256x16384, .i32⟩
  | 64 => ⟨S256x16384, .i32⟩
  | 65 => ⟨S_, .i32⟩
  | 66 => ⟨S256x16384, .i32⟩
  | 67 => ⟨S256x16384, .i32⟩
  | 68 => ⟨S256x16384, .i32⟩
  | 69 => ⟨S256x16384, .i32⟩
  | 70 => ⟨S256x16384, .i32⟩
  | 71 => ⟨S_, .i32⟩
  | 72 => ⟨S256x16384, .i32⟩
  | 73 => ⟨S256x16384, .i32⟩
  | 74 => ⟨S_, .i32⟩
  | 75 => ⟨S256x16384, .i32⟩
  | 76 => ⟨S256x16384, .i32⟩
  | 77 => ⟨S256x16384, .i32⟩
  | 78 => ⟨S256x16384, .i32⟩
  | 79 => ⟨S256x16384, .i32⟩
  | 80 => ⟨S256x16384, .i32⟩
  | 81 => ⟨S256x16384, .i32⟩
  | 82 => ⟨S256x16384, .i32⟩
  | 83 => ⟨S_, .i32⟩
  | 84 => ⟨S256x16384, .i32⟩
  | 85 => ⟨S256x16384, .i32⟩
  | 86 => ⟨S256x16384, .i32⟩
  | 87 => ⟨S_, .i32⟩
  | 88 => ⟨S256x16384, .i32⟩
  | 89 => ⟨S256x16384, .i32⟩
  | 90 => ⟨S_, .i32⟩
  | 91 => ⟨S256x16384, .i32⟩
  | 92 => ⟨S256x16384, .i32⟩
  | 93 => ⟨S256x16384, .i32⟩
  | 94 => ⟨S256x16384, .i32⟩
  | 95 => ⟨S256x16384, .i32⟩
  | 96 => ⟨S_, .i32⟩
  | 97 => ⟨S256x16384, .i32⟩
  | 98 => ⟨S256x16384, .i32⟩
  | 99 => ⟨S_, .i32⟩
  | 100 => ⟨S256x16384, .i32⟩
  | 101 => ⟨S256x16384, .i32⟩
  | 102 => ⟨S256x16384, .i32⟩
  | 103 => ⟨S256x16384, .i32⟩
  | 104 => ⟨S256x16384, .i32⟩
  | 105 => ⟨S_, .i32⟩
  | 106 => ⟨S256x16384, .i32⟩
  | 107 => ⟨S256x16384, .i32⟩
  | 108 => ⟨S_, .i32⟩
  | 109 => ⟨S256x16384, .i32⟩
  | 110 => ⟨S256x16384, .i32⟩
  | 111 => ⟨S256x16384, .i32⟩
  | 112 => ⟨S256x16384, .i32⟩
  | 113 => ⟨S256x16384, .i32⟩
  | 114 => ⟨S_, .i32⟩
  | 115 => ⟨S256x16384, .i32⟩
  | 116 => ⟨S256x16384, .i32⟩
  | 117 => ⟨S_, .i32⟩
  | 118 => ⟨S256x16384, .i32⟩
  | 119 => ⟨S256x16384, .i32⟩
  | 120 => ⟨S256x16384, .i32⟩
  | 121 => ⟨S256x16384, .i32⟩
  | 122 => ⟨S256x16384, .i32⟩
  | 123 => ⟨S256x16384, .i32⟩
  | 124 => ⟨S256x16384, .i32⟩
  | 125 => ⟨S256x16384, .i32⟩
  | 126 => ⟨S_, .i32⟩
  | 127 => ⟨S256x16384, .i32⟩
  | _ => ⟨S32x128x128x8, .f32⟩

abbrev hbmTy0_1 (i : Nat) : BufTy := match i % 128 with
  | 0 => ⟨S256x16384, .i32⟩
  | 1 => ⟨S256x16384, .i32⟩
  | 2 => ⟨S_, .i32⟩
  | 3 => ⟨S256x16384, .i32⟩
  | 4 => ⟨S256x16384, .i32⟩
  | 5 => ⟨S_, .i32⟩
  | 6 => ⟨S256x16384, .i32⟩
  | 7 => ⟨S256x16384, .i32⟩
  | 8 => ⟨S256x16384, .i32⟩
  | 9 => ⟨S256x16384, .i32⟩
  | 10 => ⟨S256x16384, .i32⟩
  | 11 => ⟨S_, .i32⟩
  | 12 => ⟨S256x16384, .i32⟩
  | 13 => ⟨S256x16384, .i32⟩
  | 14 => ⟨S_, .i32⟩
  | 15 => ⟨S256x16384, .i32⟩
  | 16 => ⟨S256x16384, .i32⟩
  | 17 => ⟨S256x16384, .i32⟩
  | 18 => ⟨S256x16384, .i32⟩
  | 19 => ⟨S256x16384, .i32⟩
  | 20 => ⟨S_, .i32⟩
  | 21 => ⟨S256x16384, .i32⟩
  | 22 => ⟨S256x16384, .i32⟩
  | 23 => ⟨S_, .i32⟩
  | 24 => ⟨S256x16384, .i32⟩
  | 25 => ⟨S256x16384, .i32⟩
  | 26 => ⟨S256x16384, .i32⟩
  | 27 => ⟨S256x16384, .i32⟩
  | 28 => ⟨S256x16384, .i32⟩
  | 29 => ⟨S_, .i32⟩
  | 30 => ⟨S256x16384, .i32⟩
  | 31 => ⟨S256x16384, .i32⟩
  | 32 => ⟨S_, .i32⟩
  | 33 => ⟨S256x16384, .i32⟩
  | 34 => ⟨S256x16384, .i32⟩
  | 35 => ⟨S256x16384, .i32⟩
  | 36 => ⟨S256x16384, .i32⟩
  | 37 => ⟨S256x16384, .i32⟩
  | 38 => ⟨S256x16384, .i32⟩
  | 39 => ⟨S256x16384, .i32⟩
  | 40 => ⟨S256x16384, .i32⟩
  | 41 => ⟨S_, .i32⟩
  | 42 => ⟨S256x16384, .i32⟩
  | 43 => ⟨S256x16384, .i32⟩
  | 44 => ⟨S256x16384, .i32⟩
  | 45 => ⟨S_, .i32⟩
  | 46 => ⟨S256x16384, .i32⟩
  | 47 => ⟨S256x16384, .i32⟩
  | 48 => ⟨S_, .i32⟩
  | 49 => ⟨S256x16384, .i32⟩
  | 50 => ⟨S256x16384, .i32⟩
  | 51 => ⟨S256x16384, .i32⟩
  | 52 => ⟨S256x16384, .i32⟩
  | 53 => ⟨S256x16384, .i32⟩
  | 54 => ⟨S_, .i32⟩
  | 55 => ⟨S256x16384, .i32⟩
  | 56 => ⟨S256x16384, .i32⟩
  | 57 => ⟨S_, .i32⟩
  | 58 => ⟨S256x16384, .i32⟩
  | 59 => ⟨S256x16384, .i32⟩
  | 60 => ⟨S256x16384, .i32⟩
  | 61 => ⟨S256x16384, .i32⟩
  | 62 => ⟨S256x16384, .i32⟩
  | 63 => ⟨S_, .i32⟩
  | 64 => ⟨S256x16384, .i32⟩
  | 65 => ⟨S256x16384, .i32⟩
  | 66 => ⟨S_, .i32⟩
  | 67 => ⟨S256x16384, .i32⟩
  | 68 => ⟨S256x16384, .i32⟩
  | 69 => ⟨S256x16384, .i32⟩
  | 70 => ⟨S256x16384, .i32⟩
  | 71 => ⟨S256x16384, .i32⟩
  | 72 => ⟨S_, .i32⟩
  | 73 => ⟨S256x16384, .i32⟩
  | 74 => ⟨S256x16384, .i32⟩
  | 75 => ⟨S_, .i32⟩
  | 76 => ⟨S256x16384, .i32⟩
  | 77 => ⟨S256x16384, .i32⟩
  | 78 => ⟨S256x16384, .i32⟩
  | 79 => ⟨S256x16384, .i32⟩
  | 80 => ⟨S256x16384, .i32⟩
  | 81 => ⟨S256x16384, .i32⟩
  | 82 => ⟨S256x16384, .i32⟩
  | 83 => ⟨S256x16384, .i32⟩
  | 84 => ⟨S_, .i32⟩
  | 85 => ⟨S256x16384, .i32⟩
  | 86 => ⟨S256x16384, .i32⟩
  | 87 => ⟨S256x16384, .i32⟩
  | 88 => ⟨S_, .i32⟩
  | 89 => ⟨S256x16384, .i32⟩
  | 90 => ⟨S256x16384, .i32⟩
  | 91 => ⟨S_, .i32⟩
  | 92 => ⟨S256x16384, .i32⟩
  | 93 => ⟨S256x16384, .i32⟩
  | 94 => ⟨S256x16384, .i32⟩
  | 95 => ⟨S256x16384, .i32⟩
  | 96 => ⟨S256x16384, .i32⟩
  | 97 => ⟨S_, .i32⟩
  | 98 => ⟨S256x16384, .i32⟩
  | 99 => ⟨S256x16384, .i32⟩
  | 100 => ⟨S_, .i32⟩
  | 101 => ⟨S256x16384, .i32⟩
  | 102 => ⟨S256x16384, .i32⟩
  | 103 => ⟨S256x16384, .i32⟩
  | 104 => ⟨S256x16384, .i32⟩
  | 105 => ⟨S256x16384, .i32⟩
  | 106 => ⟨S_, .i32⟩
  | 107 => ⟨S256x16384, .i32⟩
  | 108 => ⟨S256x16384, .i32⟩
  | 109 => ⟨S_, .i32⟩
  | 110 => ⟨S256x16384, .i32⟩
  | 111 => ⟨S256x16384, .i32⟩
  | 112 => ⟨S256x16384, .i32⟩
  | 113 => ⟨S256x16384, .i32⟩
  | 114 => ⟨S256x16384, .i32⟩
  | 115 => ⟨S_, .i32⟩
  | 116 => ⟨S256x16384, .i32⟩
  | 117 => ⟨S256x16384, .i32⟩
  | 118 => ⟨S_, .i32⟩
  | 119 => ⟨S256x16384, .i32⟩
  | 120 => ⟨S256x16384, .i32⟩
  | 121 => ⟨S256x16384, .i32⟩
  | 122 => ⟨S256x16384, .i32⟩
  | 123 => ⟨S256x16384, .i32⟩
  | 124 => ⟨S256x16384, .i32⟩
  | 125 => ⟨S256x16384, .i32⟩
  | 126 => ⟨S256x16384, .i32⟩
  | 127 => ⟨S_, .i32⟩
  | _ => ⟨S32x128x128x8, .f32⟩

abbrev hbmTy0_2 (i : Nat) : BufTy := match i % 128 with
  | 0 => ⟨S256x16384, .i32⟩
  | 1 => ⟨S256x16384, .i32⟩
  | 2 => ⟨S256x16384, .i32⟩
  | 3 => ⟨S_, .i32⟩
  | 4 => ⟨S256x16384, .i32⟩
  | 5 => ⟨S256x16384, .i32⟩
  | 6 => ⟨S_, .i32⟩
  | 7 => ⟨S256x16384, .i32⟩
  | 8 => ⟨S256x16384, .i32⟩
  | 9 => ⟨S256x16384, .f32⟩
  | 10 => ⟨S_, .f32⟩
  | 11 => ⟨S256x16384, .f32⟩
  | 12 => ⟨S256x16384, .f32⟩
  | 13 => ⟨S1x1, .f32⟩
  | 14 => ⟨S256x16384, .f32⟩
  | 15 => ⟨S256x16384, .f32⟩
  | 16 => ⟨S256x16384, .f32⟩
  | 17 => ⟨S256x16384, .f32⟩
  | 18 => ⟨S256x16384, .f32⟩
  | 19 => ⟨S256x16384, .f32⟩
  | 20 => ⟨S256x16384, .f32⟩
  | 21 => ⟨S256x16384, .f32⟩
  | 22 => ⟨S256x16384, .f32⟩
  | 23 => ⟨S256x16384, .f32⟩
  | 24 => ⟨S256x16384, .f32⟩
  | 25 => ⟨S32x8x128x128, .f32⟩
  | 26 => ⟨S32x128x128x8, .f32⟩
  | _ => ⟨S32x128x128x8, .f32⟩

abbrev hbmTy (i : Nat) : BufTy := match i / 128 with
  | 0 => hbmTy0_0 i
  | 1 => hbmTy0_1 i
  | 2 => hbmTy0_2 i
  | _ => ⟨S32x128x128x8, .f32⟩

abbrev bufTy : (tb : Table) → Fin (tcTables nBuf tb) → BufTy
  | .hbm, ⟨i, _⟩ => hbmTy i
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | .local _ .vmem, ⟨6, _⟩ => ⟨S64x16384, .f32⟩
  | .local _ .vmem, ⟨7, _⟩ => ⟨S64x16384, .f32⟩
  | .local _ .vmem, ⟨8, _⟩ => ⟨S64x16384, .f32⟩
  | _, _ => ⟨S32x128x128x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c_0 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_c_1 : Ref sig .tc := ⟨.hbm, 31, rfl⟩
abbrev main_call0_call0_v14 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v18_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v18_1 : Ref sig .tc := ⟨.hbm, 257, rfl⟩
abbrev main_call0_call0_v19 : Ref sig .tc := ⟨.hbm, 258, rfl⟩
abbrev main_call0_call0_c_2 : Ref sig .tc := ⟨.hbm, 259, rfl⟩
abbrev main_call0_call0_v20 : Ref sig .tc := ⟨.hbm, 260, rfl⟩
abbrev main_call0_call0_v21 : Ref sig .tc := ⟨.hbm, 261, rfl⟩
abbrev main_call0_call0_c_3 : Ref sig .tc := ⟨.hbm, 262, rfl⟩
abbrev main_call0_call0_v22 : Ref sig .tc := ⟨.hbm, 263, rfl⟩
abbrev main_call0_call0_v23 : Ref sig .tc := ⟨.hbm, 264, rfl⟩
abbrev main_call0_call0_v24 : Ref sig .tc := ⟨.hbm, 265, rfl⟩
abbrev main_call0_call0_cst : Ref sig .tc := ⟨.hbm, 266, rfl⟩
abbrev main_call0_call0_v25 : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_v29 : Ref sig .tc := ⟨.hbm, 271, rfl⟩
abbrev main_call0_call0_v30 : Ref sig .tc := ⟨.hbm, 272, rfl⟩
abbrev main_call0_call0_v31 : Ref sig .tc := ⟨.hbm, 273, rfl⟩
abbrev main_call0_call0_v32 : Ref sig .tc := ⟨.hbm, 274, rfl⟩
abbrev main_call0_v0 : Ref sig .tc := ⟨.hbm, 275, rfl⟩
abbrev main_call0_v1 : Ref sig .tc := ⟨.hbm, 276, rfl⟩
abbrev main_call0_v2 : Ref sig .tc := ⟨.hbm, 277, rfl⟩
abbrev main_call0_v3 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev main_v12 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v17 : BitVec 32 := Scalar.addi c0_i32 c32_i32
  let c1_i32 : BitVec 32 := 1#32
  ⟨c0_i32, v17, c1_i32⟩
@[reducible] def k0_t2_loop : Scf.Loop 32 :=
  let c0_i32_35 : BitVec 32 := 0#32
  let c4_i32_36 : BitVec 32 := 4#32
  let v50 : BitVec 32 := Scalar.addi c0_i32_35 c4_i32_36
  let c1_i32_37 : BitVec 32 := 1#32
  ⟨c0_i32_35, v50, c1_i32_37⟩
def k0_off1 (k0_t2 : Fin k0_t2_loop.trips) : Fin 2 → Nat :=
  let c0_46 : Index := 0#32
  let c0_i32_35 : BitVec 32 := 0#32
  let c1_i32_37 : BitVec 32 := 1#32
  let arg9 : BitVec 32 := Scf.iv c0_i32_35 c1_i32_37 k0_t2
  let c4096_i32 : BitVec 32 := 4096#32
  let v56 : BitVec 32 := Scalar.muli arg9 c4096_i32
  let v57 : Index := Scalar.indexCast v56
  ![0, v57.toNat]
@[reducible] def k0_t3_loop : Scf.Loop 32 :=
  let c0_i32_39 : BitVec 32 := 0#32
  let c4_i32_40 : BitVec 32 := 4#32
  let v52 : BitVec 32 := Scalar.addi c0_i32_39 c4_i32_40
  let c1_i32_41 : BitVec 32 := 1#32
  ⟨c0_i32_39, v52, c1_i32_41⟩
def k0_off2 (k0_t3 : Fin k0_t3_loop.trips) : Fin 2 → Nat :=
  let c0_46 : Index := 0#32
  let c0_i32_39 : BitVec 32 := 0#32
  let c1_i32_41 : BitVec 32 := 1#32
  let arg9 : BitVec 32 := Scf.iv c0_i32_39 c1_i32_41 k0_t3
  let c4096_i32 : BitVec 32 := 4096#32
  let v56 : BitVec 32 := Scalar.muli arg9 c4096_i32
  let v57 : Index := Scalar.indexCast v56
  ![0, v57.toNat]
@[reducible] def k0_t4_loop : Scf.Loop 32 :=
  let c0_i32_11 : BitVec 32 := 0#32
  let c4_i32 : BitVec 32 := 4#32
  let v19 : BitVec 32 := Scalar.addi c0_i32_11 c4_i32
  let c1_i32_12 : BitVec 32 := 1#32
  ⟨c0_i32_11, v19, c1_i32_12⟩
def k0_off3 (k0_t4 : Fin k0_t4_loop.trips) : Fin 2 → Nat :=
  let c0_34 : Index := 0#32
  let c0_i32_11 : BitVec 32 := 0#32
  let c1_i32_12 : BitVec 32 := 1#32
  let arg7 : BitVec 32 := Scf.iv c0_i32_11 c1_i32_12 k0_t4
  let c4096_i32 : BitVec 32 := 4096#32
  let v49 : BitVec 32 := Scalar.muli arg7 c4096_i32
  let v50 : Index := Scalar.indexCast v49
  ![0, v50.toNat]
@[reducible] def k0_t5_loop : Scf.Loop 32 :=
  let c0_i32_17 : BitVec 32 := 0#32
  let c16384_i32 : BitVec 32 := 16384#32
  let v22 : BitVec 32 := Scalar.addi c0_i32_17 c16384_i32
  let c1_i32_18 : BitVec 32 := 1#32
  ⟨c0_i32_17, v22, c1_i32_18⟩
def k0_off4 (k0_t5 : Fin k0_t5_loop.trips) : Fin 2 → Nat :=
  let c0_34 : Index := 0#32
  let c0_i32_17 : BitVec 32 := 0#32
  let c1_i32_18 : BitVec 32 := 1#32
  let arg7 : BitVec 32 := Scf.iv c0_i32_17 c1_i32_18 k0_t5
  let v49 : Index := Scalar.indexCast arg7
  ![0, v49.toNat]
@[reducible] def k0_t6_loop : Scf.Loop 32 :=
  let c0_i32_21 : BitVec 32 := 0#32
  let c31_i32 : BitVec 32 := 31#32
  let v25 : BitVec 32 := Scalar.addi c0_i32_21 c31_i32
  let c1_i32_22 : BitVec 32 := 1#32
  ⟨c0_i32_21, v25, c1_i32_22⟩
@[reducible] def k0_t7_loop : Scf.Loop 32 :=
  let c0_i32_37 : BitVec 32 := 0#32
  let c14_i32 : BitVec 32 := 14#32
  let v60 : BitVec 32 := Scalar.addi c0_i32_37 c14_i32
  let c1_i32_38 : BitVec 32 := 1#32
  ⟨c0_i32_37, v60, c1_i32_38⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x128x128x8 : Shape := ⟨4, ![32, 128, 128, 8]⟩
abbrev S32x8x128x128 : Shape := ⟨4, ![32, 8, 128, 128]⟩
abbrev S256x16384 : Shape := ⟨2, ![256, 16384]⟩
abbrev S_ : Shape := ⟨0, ![]⟩
abbrev S1 : Shape := ⟨1, ![1]⟩
abbrev S2 : Shape := ⟨1, ![2]⟩
abbrev S1x1 : Shape := ⟨2, ![1, 1]⟩
abbrev S256 : Shape := ⟨1, ![256]⟩
abbrev S256x1 : Shape := ⟨2, ![256, 1]⟩
abbrev S256x32 : Shape := ⟨2, ![256, 32]⟩
abbrev S256x32x1 : Shape := ⟨3, ![256, 32, 1]⟩
abbrev S16384 : Shape := ⟨1, ![16384]⟩
abbrev S1x1x16384 : Shape := ⟨3, ![1, 1, 16384]⟩
abbrev S256x32x16384 : Shape := ⟨3, ![256, 32, 16384]⟩

abbrev nBuf : Space → Nat
  | .hbm => 339
  | .vmem => 0
  | .smem => 0
  | _ => 0

abbrev hbmTy0_0 (i : Nat) : BufTy := match i % 128 with
  | 0 => ⟨S32x128x128x8, .f32⟩
  | 1 => ⟨S32x8x128x128, .f32⟩
  | 2 => ⟨S256x16384, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S256x16384, .i64⟩
  | 23 => ⟨S256x16384, .i64⟩
  | 24 => ⟨S_, .i64⟩
  | 25 => ⟨S256x16384, .i64⟩
  | 26 => ⟨S256x16384, .i64⟩
  | 27 => ⟨S_, .i64⟩
  | 28 => ⟨S256x16384, .i64⟩
  | 29 => ⟨S256x16384, .i64⟩
  | 30 => ⟨S256x16384, .i64⟩
  | 31 => ⟨S_, .i64⟩
  | 32 => ⟨S256x16384, .i64⟩
  | 33 => ⟨S256x16384, .i64⟩
  | 34 => ⟨S256x16384, .i32⟩
  | 35 => ⟨S256x16384, .i32⟩
  | 36 => ⟨S_, .i32⟩
  | 37 => ⟨S_, .i32⟩
  | 38 => ⟨S_, .i32⟩
  | 39 => ⟨S256x16384, .i32⟩
  | 40 => ⟨S256x16384, .i32⟩
  | 41 => ⟨S256x16384, .i32⟩
  | 42 => ⟨S256x16384, .i32⟩
  | 43 => ⟨S256x16384, .i32⟩
  | 44 => ⟨S_, .i32⟩
  | 45 => ⟨S256x16384, .i32⟩
  | 46 => ⟨S256x16384, .i32⟩
  | 47 => ⟨S_, .i32⟩
  | 48 => ⟨S256x16384, .i32⟩
  | 49 => ⟨S256x16384, .i32⟩
  | 50 => ⟨S256x16384, .i32⟩
  | 51 => ⟨S256x16384, .i32⟩
  | 52 => ⟨S256x16384, .i32⟩
  | 53 => ⟨S_, .i32⟩
  | 54 => ⟨S256x16384, .i32⟩
  | 55 => ⟨S256x16384, .i32⟩
  | 56 => ⟨S_, .i32⟩
  | 57 => ⟨S256x16384, .i32⟩
  | 58 => ⟨S256x16384, .i32⟩
  | 59 => ⟨S256x16384, .i32⟩
  | 60 => ⟨S256x16384, .i32⟩
  | 61 => ⟨S256x16384, .i32⟩
  | 62 => ⟨S_, .i32⟩
  | 63 => ⟨S256x16384, .i32⟩
  | 64 => ⟨S256x16384, .i32⟩
  | 65 => ⟨S_, .i32⟩
  | 66 => ⟨S256x16384, .i32⟩
  | 67 => ⟨S256x16384, .i32⟩
  | 68 => ⟨S256x16384, .i32⟩
  | 69 => ⟨S256x16384, .i32⟩
  | 70 => ⟨S256x16384, .i32⟩
  | 71 => ⟨S_, .i32⟩
  | 72 => ⟨S256x16384, .i32⟩
  | 73 => ⟨S256x16384, .i32⟩
  | 74 => ⟨S_, .i32⟩
  | 75 => ⟨S256x16384, .i32⟩
  | 76 => ⟨S256x16384, .i32⟩
  | 77 => ⟨S256x16384, .i32⟩
  | 78 => ⟨S256x16384, .i32⟩
  | 79 => ⟨S256x16384, .i32⟩
  | 80 => ⟨S256x16384, .i32⟩
  | 81 => ⟨S256x16384, .i32⟩
  | 82 => ⟨S256x16384, .i32⟩
  | 83 => ⟨S_, .i32⟩
  | 84 => ⟨S256x16384, .i32⟩
  | 85 => ⟨S256x16384, .i32⟩
  | 86 => ⟨S256x16384, .i32⟩
  | 87 => ⟨S_, .i32⟩
  | 88 => ⟨S256x16384, .i32⟩
  | 89 => ⟨S256x16384, .i32⟩
  | 90 => ⟨S_, .i32⟩
  | 91 => ⟨S256x16384, .i32⟩
  | 92 => ⟨S256x16384, .i32⟩
  | 93 => ⟨S256x16384, .i32⟩
  | 94 => ⟨S256x16384, .i32⟩
  | 95 => ⟨S256x16384, .i32⟩
  | 96 => ⟨S_, .i32⟩
  | 97 => ⟨S256x16384, .i32⟩
  | 98 => ⟨S256x16384, .i32⟩
  | 99 => ⟨S_, .i32⟩
  | 100 => ⟨S256x16384, .i32⟩
  | 101 => ⟨S256x16384, .i32⟩
  | 102 => ⟨S256x16384, .i32⟩
  | 103 => ⟨S256x16384, .i32⟩
  | 104 => ⟨S256x16384, .i32⟩
  | 105 => ⟨S_, .i32⟩
  | 106 => ⟨S256x16384, .i32⟩
  | 107 => ⟨S256x16384, .i32⟩
  | 108 => ⟨S_, .i32⟩
  | 109 => ⟨S256x16384, .i32⟩
  | 110 => ⟨S256x16384, .i32⟩
  | 111 => ⟨S256x16384, .i32⟩
  | 112 => ⟨S256x16384, .i32⟩
  | 113 => ⟨S256x16384, .i32⟩
  | 114 => ⟨S_, .i32⟩
  | 115 => ⟨S256x16384, .i32⟩
  | 116 => ⟨S256x16384, .i32⟩
  | 117 => ⟨S_, .i32⟩
  | 118 => ⟨S256x16384, .i32⟩
  | 119 => ⟨S256x16384, .i32⟩
  | 120 => ⟨S256x16384, .i32⟩
  | 121 => ⟨S256x16384, .i32⟩
  | 122 => ⟨S256x16384, .i32⟩
  | 123 => ⟨S256x16384, .i32⟩
  | 124 => ⟨S256x16384, .i32⟩
  | 125 => ⟨S256x16384, .i32⟩
  | 126 => ⟨S_, .i32⟩
  | 127 => ⟨S256x16384, .i32⟩
  | _ => ⟨S32x128x128x8, .f32⟩

abbrev hbmTy0_1 (i : Nat) : BufTy := match i % 128 with
  | 0 => ⟨S256x16384, .i32⟩
  | 1 => ⟨S256x16384, .i32⟩
  | 2 => ⟨S_, .i32⟩
  | 3 => ⟨S256x16384, .i32⟩
  | 4 => ⟨S256x16384, .i32⟩
  | 5 => ⟨S_, .i32⟩
  | 6 => ⟨S256x16384, .i32⟩
  | 7 => ⟨S256x16384, .i32⟩
  | 8 => ⟨S256x16384, .i32⟩
  | 9 => ⟨S256x16384, .i32⟩
  | 10 => ⟨S256x16384, .i32⟩
  | 11 => ⟨S_, .i32⟩
  | 12 => ⟨S256x16384, .i32⟩
  | 13 => ⟨S256x16384, .i32⟩
  | 14 => ⟨S_, .i32⟩
  | 15 => ⟨S256x16384, .i32⟩
  | 16 => ⟨S256x16384, .i32⟩
  | 17 => ⟨S256x16384, .i32⟩
  | 18 => ⟨S256x16384, .i32⟩
  | 19 => ⟨S256x16384, .i32⟩
  | 20 => ⟨S_, .i32⟩
  | 21 => ⟨S256x16384, .i32⟩
  | 22 => ⟨S256x16384, .i32⟩
  | 23 => ⟨S_, .i32⟩
  | 24 => ⟨S256x16384, .i32⟩
  | 25 => ⟨S256x16384, .i32⟩
  | 26 => ⟨S256x16384, .i32⟩
  | 27 => ⟨S256x16384, .i32⟩
  | 28 => ⟨S256x16384, .i32⟩
  | 29 => ⟨S_, .i32⟩
  | 30 => ⟨S256x16384, .i32⟩
  | 31 => ⟨S256x16384, .i32⟩
  | 32 => ⟨S_, .i32⟩
  | 33 => ⟨S256x16384, .i32⟩
  | 34 => ⟨S256x16384, .i32⟩
  | 35 => ⟨S256x16384, .i32⟩
  | 36 => ⟨S256x16384, .i32⟩
  | 37 => ⟨S256x16384, .i32⟩
  | 38 => ⟨S256x16384, .i32⟩
  | 39 => ⟨S256x16384, .i32⟩
  | 40 => ⟨S256x16384, .i32⟩
  | 41 => ⟨S_, .i32⟩
  | 42 => ⟨S256x16384, .i32⟩
  | 43 => ⟨S256x16384, .i32⟩
  | 44 => ⟨S256x16384, .i32⟩
  | 45 => ⟨S_, .i32⟩
  | 46 => ⟨S256x16384, .i32⟩
  | 47 => ⟨S256x16384, .i32⟩
  | 48 => ⟨S_, .i32⟩
  | 49 => ⟨S256x16384, .i32⟩
  | 50 => ⟨S256x16384, .i32⟩
  | 51 => ⟨S256x16384, .i32⟩
  | 52 => ⟨S256x16384, .i32⟩
  | 53 => ⟨S256x16384, .i32⟩
  | 54 => ⟨S_, .i32⟩
  | 55 => ⟨S256x16384, .i32⟩
  | 56 => ⟨S256x16384, .i32⟩
  | 57 => ⟨S_, .i32⟩
  | 58 => ⟨S256x16384, .i32⟩
  | 59 => ⟨S256x16384, .i32⟩
  | 60 => ⟨S256x16384, .i32⟩
  | 61 => ⟨S256x16384, .i32⟩
  | 62 => ⟨S256x16384, .i32⟩
  | 63 => ⟨S_, .i32⟩
  | 64 => ⟨S256x16384, .i32⟩
  | 65 => ⟨S256x16384, .i32⟩
  | 66 => ⟨S_, .i32⟩
  | 67 => ⟨S256x16384, .i32⟩
  | 68 => ⟨S256x16384, .i32⟩
  | 69 => ⟨S256x16384, .i32⟩
  | 70 => ⟨S256x16384, .i32⟩
  | 71 => ⟨S256x16384, .i32⟩
  | 72 => ⟨S_, .i32⟩
  | 73 => ⟨S256x16384, .i32⟩
  | 74 => ⟨S256x16384, .i32⟩
  | 75 => ⟨S_, .i32⟩
  | 76 => ⟨S256x16384, .i32⟩
  | 77 => ⟨S256x16384, .i32⟩
  | 78 => ⟨S256x16384, .i32⟩
  | 79 => ⟨S256x16384, .i32⟩
  | 80 => ⟨S256x16384, .i32⟩
  | 81 => ⟨S256x16384, .i32⟩
  | 82 => ⟨S256x16384, .i32⟩
  | 83 => ⟨S256x16384, .i32⟩
  | 84 => ⟨S_, .i32⟩
  | 85 => ⟨S256x16384, .i32⟩
  | 86 => ⟨S256x16384, .i32⟩
  | 87 => ⟨S256x16384, .i32⟩
  | 88 => ⟨S_, .i32⟩
  | 89 => ⟨S256x16384, .i32⟩
  | 90 => ⟨S256x16384, .i32⟩
  | 91 => ⟨S_, .i32⟩
  | 92 => ⟨S256x16384, .i32⟩
  | 93 => ⟨S256x16384, .i32⟩
  | 94 => ⟨S256x16384, .i32⟩
  | 95 => ⟨S256x16384, .i32⟩
  | 96 => ⟨S256x16384, .i32⟩
  | 97 => ⟨S_, .i32⟩
  | 98 => ⟨S256x16384, .i32⟩
  | 99 => ⟨S256x16384, .i32⟩
  | 100 => ⟨S_, .i32⟩
  | 101 => ⟨S256x16384, .i32⟩
  | 102 => ⟨S256x16384, .i32⟩
  | 103 => ⟨S256x16384, .i32⟩
  | 104 => ⟨S256x16384, .i32⟩
  | 105 => ⟨S256x16384, .i32⟩
  | 106 => ⟨S_, .i32⟩
  | 107 => ⟨S256x16384, .i32⟩
  | 108 => ⟨S256x16384, .i32⟩
  | 109 => ⟨S_, .i32⟩
  | 110 => ⟨S256x16384, .i32⟩
  | 111 => ⟨S256x16384, .i32⟩
  | 112 => ⟨S256x16384, .i32⟩
  | 113 => ⟨S256x16384, .i32⟩
  | 114 => ⟨S256x16384, .i32⟩
  | 115 => ⟨S_, .i32⟩
  | 116 => ⟨S256x16384, .i32⟩
  | 117 => ⟨S256x16384, .i32⟩
  | 118 => ⟨S_, .i32⟩
  | 119 => ⟨S256x16384, .i32⟩
  | 120 => ⟨S256x16384, .i32⟩
  | 121 => ⟨S256x16384, .i32⟩
  | 122 => ⟨S256x16384, .i32⟩
  | 123 => ⟨S256x16384, .i32⟩
  | 124 => ⟨S256x16384, .i32⟩
  | 125 => ⟨S256x16384, .i32⟩
  | 126 => ⟨S256x16384, .i32⟩
  | 127 => ⟨S_, .i32⟩
  | _ => ⟨S32x128x128x8, .f32⟩

abbrev hbmTy0_2 (i : Nat) : BufTy := match i % 128 with
  | 0 => ⟨S256x16384, .i32⟩
  | 1 => ⟨S256x16384, .i32⟩
  | 2 => ⟨S256x16384, .i32⟩
  | 3 => ⟨S_, .i32⟩
  | 4 => ⟨S256x16384, .i32⟩
  | 5 => ⟨S256x16384, .i32⟩
  | 6 => ⟨S_, .i32⟩
  | 7 => ⟨S256x16384, .i32⟩
  | 8 => ⟨S256x16384, .i32⟩
  | 9 => ⟨S256x16384, .f32⟩
  | 10 => ⟨S_, .f32⟩
  | 11 => ⟨S256x16384, .f32⟩
  | 12 => ⟨S256x16384, .f32⟩
  | 13 => ⟨S1x1, .f32⟩
  | 14 => ⟨S256x16384, .f32⟩
  | 15 => ⟨S256x16384, .f32⟩
  | 16 => ⟨S256x16384, .f32⟩
  | 17 => ⟨S256x16384, .f32⟩
  | 18 => ⟨S256x16384, .f32⟩
  | 19 => ⟨S256x16384, .f32⟩
  | 20 => ⟨S256x16384, .f32⟩
  | 21 => ⟨S256x16384, .f32⟩
  | 22 => ⟨S256x16384, .f32⟩
  | 23 => ⟨S256x16384, .f32⟩
  | 24 => ⟨S256x16384, .f32⟩
  | 25 => ⟨S_, .f32⟩
  | 26 => ⟨S256x16384, .f32⟩
  | 27 => ⟨S_, .f32⟩
  | 28 => ⟨S256x16384, .f32⟩
  | 29 => ⟨S_, .i32⟩
  | 30 => ⟨S_, .i32⟩
  | 31 => ⟨S_, .i32⟩
  | 32 => ⟨S_, .i32⟩
  | 33 => ⟨S256x16384, .f32⟩
  | 34 => ⟨S256x16384, .f32⟩
  | 35 => ⟨S256x16384, .f32⟩
  | 36 => ⟨S_, .i32⟩
  | 37 => ⟨S_, .i1⟩
  | 38 => ⟨S_, .i32⟩
  | 39 => ⟨S_, .i32⟩
  | 40 => ⟨S_, .f32⟩
  | 41 => ⟨S256x16384, .f32⟩
  | 42 => ⟨S256x16384, .f32⟩
  | 43 => ⟨S_, .f32⟩
  | 44 => ⟨S256x16384, .f32⟩
  | 45 => ⟨S256x16384, .f32⟩
  | 46 => ⟨S256x16384, .f32⟩
  | 47 => ⟨S256x16384, .f32⟩
  | 48 => ⟨S_, .f32⟩
  | 49 => ⟨S256x16384, .f32⟩
  | 50 => ⟨S256x16384, .f32⟩
  | 51 => ⟨S_, .f32⟩
  | 52 => ⟨S256, .f32⟩
  | 53 => ⟨S_, .f32⟩
  | 54 => ⟨S256, .f32⟩
  | 55 => ⟨S256, .f32⟩
  | 56 => ⟨S256x1, .f32⟩
  | 57 => ⟨S256x16384, .f32⟩
  | 58 => ⟨S256x16384, .f32⟩
  | 59 => ⟨S256x16384, .f32⟩
  | 60 => ⟨S_, .f32⟩
  | 61 => ⟨S256, .f32⟩
  | 62 => ⟨S256x1, .f32⟩
  | 63 => ⟨S256x16384, .f32⟩
  | 64 => ⟨S256x16384, .f32⟩
  | 65 => ⟨S256x16384, .f32⟩
  | 66 => ⟨S_, .i32⟩
  | 67 => ⟨S_, .i32⟩
  | 68 => ⟨S256x32, .f32⟩
  | 69 => ⟨S256x32, .i32⟩
  | 70 => ⟨S256x32x1, .i32⟩
  | 71 => ⟨S16384, .i32⟩
  | 72 => ⟨S1x1x16384, .i32⟩
  | 73 => ⟨S256x32x16384, .i32⟩
  | 74 => ⟨S256x32x16384, .i32⟩
  | 75 => ⟨S256x32x16384, .i1⟩
  | 76 => ⟨S_, .i1⟩
  | 77 => ⟨S256x16384, .i1⟩
  | 78 => ⟨S256x16384, .f32⟩
  | 79 => ⟨S256x16384, .f32⟩
  | 80 => ⟨S256x16384, .f32⟩
  | 81 => ⟨S32x8x128x128, .f32⟩
  | 82 => ⟨S32x128x128x8, .f32⟩
  | _ => ⟨S32x128x128x8, .f32⟩

abbrev hbmTy (i : Nat) : BufTy := match i / 128 with
  | 0 => hbmTy0_0 i
  | 1 => hbmTy0_1 i
  | 2 => hbmTy0_2 i
  | _ => ⟨S32x128x128x8, .f32⟩

abbrev bufTy : (tb : Table) → Fin (tcTables nBuf tb) → BufTy
  | .hbm, ⟨i, _⟩ => hbmTy i
  | _, _ => ⟨S32x128x128x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c_0 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_c_1 : Ref sig .tc := ⟨.hbm, 31, rfl⟩
abbrev main_call0_call0_v14 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v18_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v18_1 : Ref sig .tc := ⟨.hbm, 257, rfl⟩
abbrev main_call0_call0_v19 : Ref sig .tc := ⟨.hbm, 258, rfl⟩
abbrev main_call0_call0_c_2 : Ref sig .tc := ⟨.hbm, 259, rfl⟩
abbrev main_call0_call0_v20 : Ref sig .tc := ⟨.hbm, 260, rfl⟩
abbrev main_call0_call0_v21 : Ref sig .tc := ⟨.hbm, 261, rfl⟩
abbrev main_call0_call0_c_3 : Ref sig .tc := ⟨.hbm, 262, rfl⟩
abbrev main_call0_call0_v22 : Ref sig .tc := ⟨.hbm, 263, rfl⟩
abbrev main_call0_call0_v23 : Ref sig .tc := ⟨.hbm, 264, rfl⟩
abbrev main_call0_call0_v24 : Ref sig .tc := ⟨.hbm, 265, rfl⟩
abbrev main_call0_call0_cst : Ref sig .tc := ⟨.hbm, 266, rfl⟩
abbrev main_call0_call0_v25 : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_v29 : Ref sig .tc := ⟨.hbm, 271, rfl⟩
abbrev main_call0_call0_v30 : Ref sig .tc := ⟨.hbm, 272, rfl⟩
abbrev main_call0_call0_v31 : Ref sig .tc := ⟨.hbm, 273, rfl⟩
abbrev main_call0_call0_v32 : Ref sig .tc := ⟨.hbm, 274, rfl⟩
abbrev main_call0_v0 : Ref sig .tc := ⟨.hbm, 275, rfl⟩
abbrev main_call0_v1 : Ref sig .tc := ⟨.hbm, 276, rfl⟩
abbrev main_call0_v2 : Ref sig .tc := ⟨.hbm, 277, rfl⟩
abbrev main_call0_v3 : Ref sig .tc := ⟨.hbm, 278, rfl⟩
abbrev main_v9 : Ref sig .tc := ⟨.hbm, 279, rfl⟩
abbrev main_v10 : Ref sig .tc := ⟨.hbm, 280, rfl⟩
abbrev main_cst : Ref sig .tc := ⟨.hbm, 281, rfl⟩
abbrev main_v11 : Ref sig .tc := ⟨.hbm, 282, rfl⟩
abbrev main_cst_2 : Ref sig .tc := ⟨.hbm, 283, rfl⟩
abbrev main_v12 : Ref sig .tc := ⟨.hbm, 284, rfl⟩
abbrev main_c_3 : Ref sig .tc := ⟨.hbm, 285, rfl⟩
abbrev main_c_4 : Ref sig .tc := ⟨.hbm, 286, rfl⟩
abbrev main_v13_0 : Ref sig .tc := ⟨.hbm, 287, rfl⟩
abbrev main_v13_1 : Ref sig .tc := ⟨.hbm, 288, rfl⟩
abbrev main_v13_2 : Ref sig .tc := ⟨.hbm, 289, rfl⟩
abbrev main_v13_3 : Ref sig .tc := ⟨.hbm, 290, rfl⟩
abbrev main_v13_4 : Ref sig .tc := ⟨.hbm, 291, rfl⟩
abbrev main_while0c_c_10 : Ref sig .tc := ⟨.hbm, 292, rfl⟩
abbrev main_while0c_v26 : Ref sig .tc := ⟨.hbm, 293, rfl⟩
abbrev main_while0b_c_10 : Ref sig .tc := ⟨.hbm, 294, rfl⟩
abbrev main_while0b_v26 : Ref sig .tc := ⟨.hbm, 295, rfl⟩
abbrev main_while0b_cst_11 : Ref sig .tc := ⟨.hbm, 296, rfl⟩
abbrev main_while0b_v27 : Ref sig .tc := ⟨.hbm, 297, rfl⟩
abbrev main_while0b_v28 : Ref sig .tc := ⟨.hbm, 298, rfl⟩
abbrev main_while0b_cst_12 : Ref sig .tc := ⟨.hbm, 299, rfl⟩
abbrev main_while0b_v29 : Ref sig .tc := ⟨.hbm, 300, rfl⟩
abbrev main_while0b_v30 : Ref sig .tc := ⟨.hbm, 301, rfl⟩
abbrev main_while0b_v31 : Ref sig .tc := ⟨.hbm, 302, rfl⟩
abbrev main_while0b_v32 : Ref sig .tc := ⟨.hbm, 303, rfl⟩
abbrev main_while0b_cst_13 : Ref sig .tc := ⟨.hbm, 304, rfl⟩
abbrev main_while0b_v33 : Ref sig .tc := ⟨.hbm, 305, rfl⟩
abbrev main_while0b_v34 : Ref sig .tc := ⟨.hbm, 306, rfl⟩
abbrev main_while0b_cst_14 : Ref sig .tc := ⟨.hbm, 307, rfl⟩
abbrev main_while0b_v35 : Ref sig .tc := ⟨.hbm, 308, rfl⟩
abbrev main_while0b_cst_15 : Ref sig .tc := ⟨.hbm, 309, rfl⟩
abbrev main_while0b_v36 : Ref sig .tc := ⟨.hbm, 310, rfl⟩
abbrev main_while0b_v37 : Ref sig .tc := ⟨.hbm, 311, rfl⟩
abbrev main_while0b_v38 : Ref sig .tc := ⟨.hbm, 312, rfl⟩
abbrev main_while0b_v39 : Ref sig .tc := ⟨.hbm, 313, rfl⟩
abbrev main_while0b_v40 : Ref sig .tc := ⟨.hbm, 314, rfl⟩
abbrev main_while0b_v41 : Ref sig .tc := ⟨.hbm, 315, rfl⟩
abbrev main_while0b_cst_16 : Ref sig .tc := ⟨.hbm, 316, rfl⟩
abbrev main_while0b_v42 : Ref sig .tc := ⟨.hbm, 317, rfl⟩
abbrev main_while0b_v43 : Ref sig .tc := ⟨.hbm, 318, rfl⟩
abbrev main_while0b_v44 : Ref sig .tc := ⟨.hbm, 319, rfl⟩
abbrev main_while0b_v45 : Ref sig .tc := ⟨.hbm, 320, rfl⟩
abbrev main_while0b_v46 : Ref sig .tc := ⟨.hbm, 321, rfl⟩
abbrev main_while0b_c_17 : Ref sig .tc := ⟨.hbm, 322, rfl⟩
abbrev main_while0b_v47 : Ref sig .tc := ⟨.hbm, 323, rfl⟩
abbrev main_values : Ref sig .tc := ⟨.hbm, 324, rfl⟩
abbrev main_indices : Ref sig .tc := ⟨.hbm, 325, rfl⟩
abbrev main_v14 : Ref sig .tc := ⟨.hbm, 326, rfl⟩
abbrev main_v15 : Ref sig .tc := ⟨.hbm, 327, rfl⟩
abbrev main_v16 : Ref sig .tc := ⟨.hbm, 328, rfl⟩
abbrev main_v17 : Ref sig .tc := ⟨.hbm, 329, rfl⟩
abbrev main_v18 : Ref sig .tc := ⟨.hbm, 330, rfl⟩
abbrev main_v19 : Ref sig .tc := ⟨.hbm, 331, rfl⟩
abbrev main_c_5 : Ref sig .tc := ⟨.hbm, 332, rfl⟩
abbrev main_v20 : Ref sig .tc := ⟨.hbm, 333, rfl⟩
abbrev main_v21 : Ref sig .tc := ⟨.hbm, 334, rfl⟩
abbrev main_v22 : Ref sig .tc := ⟨.hbm, 335, rfl⟩
abbrev main_v23 : Ref sig .tc := ⟨.hbm, 336, rfl⟩
abbrev main_v24 : Ref sig .tc := ⟨.hbm, 337, rfl⟩
abbrev main_v25 : Ref sig .tc := ⟨.hbm, 338, rfl⟩

abbrev nD : Nat := 1
abbrev τ : Topo := Topo.v7x

variable {F : FTy → Type} [FloatOps F]

abbrev main_while0_count : Scf.Loop 32 := ⟨0#32, 32#32, 1#32⟩
-- ==== Proof.KernelIdealState.lean ====
/- Hand-written, untrusted: WHAT THE KERNEL'S SCRATCH BUFFERS HOLD. The body works on three scratch buffers of one block's
   shape and passes over them by chunks of 4096 columns. Here each loop is a plain recursion on vectors: a chunk's load is a
   window of the vector, a chunk's store puts its payload over that window. -/
module

public import proofs.«01_k».proof.Proof.Gen.KernelIdeal.Skeleton
public import Idealize.ShloMosaic.Lib.VecWindow
public import Idealize.ShloMosaic.Lib.Exec

@[expose] public section

noncomputable section

namespace Cert.KernelIdeal.Hand

open Cert.KernelIdeal Cert.KernelIdeal.Gen
open Idealize.ShloMosaic Idealize.ShloMosaic.TcCoe

variable {F : FTy → Type} [FloatOps F]

/-- A block's vector. -/
abbrev X (F : FTy → Type) : Type := FVec F S64x16384 .f32
/-- One number per row. -/
abbrev Col (F : FTy → Type) : Type := FVec F S64x1 .f32

/-- Where chunk `k` starts. -/
def off (k : ℕ) : Fin 2 → ℕ := ![0, 4096 * (k % 4)]
theorem off_inb (k : ℕ) : ∀ a, off k a + S64x4096.size a ≤ S64x16384.size a := by
  intro a
  have := Nat.mod_lt k (show 0 < 4 by decide)
  fin_cases a
  · show 0 + 64 ≤ 64; omega
  · show 4096 * (k % 4) + 4096 ≤ 16384; omega

/-- Where column `j` starts. -/
def coff (j : ℕ) : Fin 2 → ℕ := ![0, j % 16384]
theorem coff_inb (j : ℕ) : ∀ a, coff j a + S64x1.size a ≤ S64x16384.size a := by
  intro a
  have := Nat.mod_lt j (show 0 < 16384 by decide)
  fin_cases a
  · show 0 + 64 ≤ 64; omega
  · show j % 16384 + 1 ≤ 16384; omega

/-- Chunk `k` of `x`. -/
def win (x : X F) (k : ℕ) : FVec F S64x4096 .f32 := VecWindow.window x (off k) S64x4096.size (off_inb k)
/-- Column `j` of `x`. -/
def col (x : X F) (j : ℕ) : Col F := VecWindow.window x (coff j) S64x1.size (coff_inb j)
/-- `x` with chunk `k` replaced by `w`. -/
def put (x : X F) (k : ℕ) (w : FVec F S64x4096 .f32) : X F := VecWindow.put x (off k) S64x4096.size w

/-- The first inner loop before chunk `k`: the logits' buffer, the running sum's buffer and the running row maximum. -/
def lo2 (sum : Col F) (e s kh : X F) (m : Col F) : ℕ → X F × X F × Col F
  | 0 => (s, kh, m)
  | k + 1 =>
    let p := lo2 sum e s kh m k
    (put p.1 k (k0_pay19 sum (win e k) (win p.1 k)), put p.2.1 k (k0_pay17 sum (win e k) (win p.2.1 k)), k0_pay20 sum p.2.2 (win e k) (win p.1 k))

/-- The second inner loop before chunk `k`: the exponentials' buffer. -/
def lo3 (m : Col F) (s e : X F) : ℕ → X F
  | 0 => e
  | k + 1 => put (lo3 m s e k) k (k0_pay21 m (win s k))

/-- The closing loop before chunk `k`: the running sum's buffer. -/
def lo4 (sum : Col F) (e kh : X F) : ℕ → X F
  | 0 => kh
  | k + 1 => put (lo4 sum e kh k) k (k0_pay23 sum (win (lo4 sum e kh k) k) (win e k))

/-- The state of the outer loop: logits, exponentials, running sum, and the row sums of the exponentials. -/
structure St (F : FTy → Type) where
  s : X F
  e : X F
  kh : X F
  sum : Col F

/-- One outer trip. -/
def trip (p : St F) : St F :=
  let a := lo2 p.sum p.e p.s p.kh (k0_pay15 (F := F)) 4
  let e' := lo3 a.2.2 a.1 p.e 4
  ⟨a.1, e', a.2.1, k0_pay22 e'⟩

/-- The outer loop before trip `k`. -/
def lo1 (s e kh : X F) (sum : Col F) : ℕ → St F
  | 0 => ⟨s, e, kh, sum⟩
  | k + 1 => trip (lo1 s e kh sum k)

/-- The rank's counting loop before column `j`. -/
def lo5 (kh v : X F) (r : IVec S64x16384 32) : ℕ → IVec S64x16384 32
  | 0 => r
  | j + 1 => k0_pay25 v (lo5 kh v r j) (col kh j)

/-- The running sum after the whole soft phase, from a block of scores and of noise. -/
def khot (x g : X F) : X F :=
  let p := lo1 (k0_pay11 x g) (k0_pay12 (F := F)) (k0_pay13 (F := F)) (k0_pay14 (F := F)) 32
  lo4 p.sum p.e p.kh 4

/-- Each element's rank in its row. -/
def rank (kh : X F) : IVec S64x16384 32 := lo5 kh kh k0_pay24 16384

/-- The threshold that the bit search finds in each row. -/
def thr (r : IVec S64x16384 32) : IVec S64x1 32 :=
  Scf.fold (n := k0_t6_loop.trips) (fun k acc => k0_pay1 r 0#32 k acc) k0_pay26

/-- The column up to which the elements at the threshold are taken, less one. -/
def cut (r : IVec S64x16384 32) (t : IVec S64x1 32) : IVec S64x1 32 :=
  Scf.fold (n := k0_t7_loop.trips) (fun k acc => k0_pay9 r t k acc) k0_pay8

/-- Whether in every row of the block as many elements as are wanted lie at or above the threshold. -/
def clean (F : FTy → Type) [FloatOps F] (r : IVec S64x16384 32) (t : IVec S64x1 32) : BitVec 1 :=
  Scalar.cmpi .ne (Scalar.extui (Scalar.cmpf .ogt (k0_pay4 (F := F) r t) (Scalar.ofBits .f32 0x00000000#32)) : BitVec 32) 0#32

/-- The result's block of the running sum's block. -/
def pick (kh : X F) : X F :=
  if clean F (rank kh) (thr (rank kh)) = 1#1 then k0_pay5 kh (rank kh) (thr (rank kh))
  else k0_pay10 kh (rank kh) (thr (rank kh)) (cut (rank kh) (thr (rank kh)))

/-- The result's block of the block of scores and of noise. -/
def out (x g : X F) : X F := pick (khot x g)

end Cert.KernelIdeal.Hand

end
-- ==== Proof.KernelIdealLoops.lean ====
/- Hand-written, untrusted: THE KERNEL'S COUNTED LOOPS, each by one invariant over a symbolic trip: the buffers read the
   recursions of `KernelIdealState` at the trip. -/
module

public import proofs.«01_k».proof.Proof.KernelIdealState
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.none

/-- A block-shaped memref in vector memory. -/
abbrev Mr : Type := Memref sig .tc .vmem S64x16384 .f32

/-- A buffer held whole at the contents `f`. -/
abbrev held (c : Dev nD) (M : Mr) (f : BufTy.Contents (Elt F) M.view.ty) : sProp 𝕄 :=
  M.view.loc (c : Thread nD τ) ↦[M.view.set]{fullShare} f

theorem off1_eq (k : Fin k0_t2_loop.trips) : k0_off1 k = off k.val := by
  rw [k0_off1_eq, off, Nat.mod_eq_of_lt (Nat.lt_of_lt_of_le k.isLt k0_t2_abs.2.1)]
theorem off2_eq (k : Fin k0_t3_loop.trips) : k0_off2 k = off k.val := by
  rw [k0_off2_eq, off, Nat.mod_eq_of_lt (Nat.lt_of_lt_of_le k.isLt k0_t3_abs.2.1)]
theorem off3_eq (k : Fin k0_t4_loop.trips) : k0_off3 k = off k.val := by
  rw [k0_off3_eq, off, Nat.mod_eq_of_lt (Nat.lt_of_lt_of_le k.isLt k0_t4_abs.2.1)]
theorem off4_eq (k : Fin k0_t5_loop.trips) : k0_off4 k = coff k.val := by
  rw [k0_off4_eq, coff, Nat.mod_eq_of_lt (Nat.lt_of_lt_of_le k.isLt k0_t5_abs.2.1)]

/-- A chunk's load reads the chunk of what the buffer reads. -/
theorem load_win (M : Mr) (f : BufTy.Contents (Elt F) M.view.ty) {o : Fin 2 → ℕ} (inb : ∀ a, o a + S64x4096.size a ≤ S64x16384.size a)
    (k : ℕ) (h : o = off k) (x : X F) (hf : M.view.read (Elt F) f = x) :
    M.view.readAt (Elt F) (Rect.unit (s := S64x16384) o S64x4096.size inb).toLoadRect f = win x k := by
  subst hf; exact View.readAt_unit M.view f inb h (off_inb k)

/-- A column's load reads the column of what the buffer reads. -/
theorem load_col (M : Mr) (f : BufTy.Contents (Elt F) M.view.ty) {o : Fin 2 → ℕ} (inb : ∀ a, o a + S64x1.size a ≤ S64x16384.size a)
    (k : ℕ) (h : o = coff k) (x : X F) (hf : M.view.read (Elt F) f = x) :
    M.view.readAt (Elt F) (Rect.unit (s := S64x16384) o S64x1.size inb).toLoadRect f = col x k := by
  subst hf; exact View.readAt_unit M.view f inb h (coff_inb k)

/-- A chunk's store puts its payload over the chunk. -/
theorem store_put (M : Mr) (f : BufTy.Contents (Elt F) M.view.ty) {o : Fin 2 → ℕ} (inb : ∀ a, o a + S64x4096.size a ≤ S64x16384.size a)
    (k : ℕ) (h : o = off k) (w : FVec F S64x4096 .f32) (x : X F) (hf : M.view.read (Elt F) f = x) :
    M.view.read (Elt F) (M.view.writes (Elt F) f [⟨Rect.unit (s := S64x16384) o S64x4096.size inb, w⟩]) = put x k w := by
  subst hf; exact View.read_writes_cons_put M.view f inb w [] h

section Loops

variable (c : Dev nD) (i : grid0.Coords)
  (arg1 : Mr) (harg1 : arg1.IsWhole) (arg2 : Mr) (harg2 : arg2.IsWhole) (arg3 : Mr) (harg3 : arg3.IsWhole)
  (arg4 : Mr) (harg4 : arg4.IsWhole) (arg5 : Mr) (harg5 : arg5.IsWhole) (arg6 : Mr) (harg6 : arg6.IsWhole)

/-- The second inner loop: the exponentials' buffer is replaced chunk by chunk. -/
@[instance_reducible, sl_loop] def loop3 (m : Col F) (G4 : BufTy.Contents (Elt F) arg4.view.ty) (G5 : BufTy.Contents (Elt F) arg5.view.ty) :
    LoopInv (M := 𝕄) frame (wpE (defs₀ (F := F)) 𝒱₀ (c : Thread nD τ) none) Set.univ k0_t3_loop.lb k0_t3_loop.ub k0_t3_loop.st k0_t3_ok ⟨⟩
      (k0_t3_body (F := F) i arg1 harg1 arg2 harg2 arg3 harg3 arg4 harg4 arg5 harg5 arg6 harg6 m) where
  inv k _ := iprop(held c arg4 G4 ∗ ∃ f, held c arg5 f ∗ ⌜arg5.view.read (Elt F) f = lo3 m (arg4.view.read (Elt F) G4) (arg5.view.read (Elt F) G5) k⌝)
  step k _ := by
    have hk : k.val < 4 := Nat.lt_of_lt_of_le k.isLt k0_t3_abs.2.1
    unfold k0_t3_body
    iintro ⟨H4, ⟨%f, H5, %hf⟩⟩
    sl_exec
    sl_step
    isplitl [H4]; · iexact H4
    iexists _; isplitl [H5]; · iexact H5
    ipureintro
    rw [store_put arg5 f _ k.val (off2_eq k) _ _ hf]
    rw [load_win arg4 G4 _ k.val (off2_eq k) _ rfl]
    rfl

/-- The first inner loop: chunk by chunk the normalised exponentials join the running sum, the logits are damped and
    the row maximum is carried. -/
@[instance_reducible, sl_loop] def loop2 (sum m : Col F) (G4 : BufTy.Contents (Elt F) arg4.view.ty) (G5 : BufTy.Contents (Elt F) arg5.view.ty)
    (G6 : BufTy.Contents (Elt F) arg6.view.ty) :
    LoopInv (M := 𝕄) frame (wpE (defs₀ (F := F)) 𝒱₀ (c : Thread nD τ) none) Set.univ k0_t2_loop.lb k0_t2_loop.ub k0_t2_loop.st k0_t2_ok m
      (k0_t2_body (F := F) i arg1 harg1 arg2 harg2 arg3 harg3 arg4 harg4 arg5 harg5 arg6 harg6 sum) where
  inv k acc := iprop(⌜acc = (lo2 sum (arg5.view.read (Elt F) G5) (arg4.view.read (Elt F) G4) (arg6.view.read (Elt F) G6) m k).2.2⌝ ∗ held c arg5 G5
    ∗ (∃ f, held c arg4 f ∗ ⌜arg4.view.read (Elt F) f = (lo2 sum (arg5.view.read (Elt F) G5) (arg4.view.read (Elt F) G4) (arg6.view.read (Elt F) G6) m k).1⌝)
    ∗ (∃ f, held c arg6 f ∗ ⌜arg6.view.read (Elt F) f = (lo2 sum (arg5.view.read (Elt F) G5) (arg4.view.read (Elt F) G4) (arg6.view.read (Elt F) G6) m k).2.1⌝))
  step k acc := by
    have hk : k.val < 4 := Nat.lt_of_lt_of_le k.isLt k0_t2_abs.2.1
    unfold k0_t2_body
    iintro ⟨%ha, H5, ⟨%f4, H4, %h4⟩, ⟨%f6, H6, %h6⟩⟩
    sl_exec
    sl_step
    isplitr
    · ipureintro
      rw [load_win arg5 G5 _ k.val (off1_eq k) _ rfl, load_win arg4 f4 _ k.val (off1_eq k) _ h4, ha]
      rfl
    isplitl [H5]; · iexact H5
    isplitl [H4]
    · iexists _; isplitl [H4]; · iexact H4
      ipureintro
      rw [store_put arg4 f4 _ k.val (off1_eq k) _ _ h4, load_win arg5 G5 _ k.val (off1_eq k) _ rfl, load_win arg4 f4 _ k.val (off1_eq k) _ h4]
      rfl
    · iexists _; isplitl [H6]; · iexact H6
      ipureintro
      rw [store_put arg6 f6 _ k.val (off1_eq k) _ _ h6, load_win arg5 G5 _ k.val (off1_eq k) _ rfl, load_win arg6 f6 _ k.val (off1_eq k) _ h6]
      rfl

/-- The closing loop: the last normalised exponentials join the running sum. -/
@[instance_reducible, sl_loop] def loop4 (sum : Col F) (G5 : BufTy.Contents (Elt F) arg5.view.ty) (G6 : BufTy.Contents (Elt F) arg6.view.ty) :
    LoopInv (M := 𝕄) frame (wpE (defs₀ (F := F)) 𝒱₀ (c : Thread nD τ) none) Set.univ k0_t4_loop.lb k0_t4_loop.ub k0_t4_loop.st k0_t4_ok ⟨⟩
      (k0_t4_body (F := F) i arg1 harg1 arg2 harg2 arg3 harg3 arg4 harg4 arg5 harg5 arg6 harg6 sum) where
  inv k _ := iprop(held c arg5 G5 ∗ ∃ f, held c arg6 f ∗ ⌜arg6.view.read (Elt F) f = lo4 sum (arg5.view.read (Elt F) G5) (arg6.view.read (Elt F) G6) k⌝)
  step k _ := by
    have hk : k.val < 4 := Nat.lt_of_lt_of_le k.isLt k0_t4_abs.2.1
    unfold k0_t4_body
    iintro ⟨H5, ⟨%f, H6, %hf⟩⟩
    sl_exec
    sl_step
    isplitl [H5]; · iexact H5
    iexists _; isplitl [H6]; · iexact H6
    ipureintro
    rw [store_put arg6 f _ k.val (off3_eq k) _ _ hf, load_win arg5 G5 _ k.val (off3_eq k) _ rfl, load_win arg6 f _ k.val (off3_eq k) _ hf]
    rfl

/-- The rank's counting loop: the carried count, and the buffer as it was. -/
@[instance_reducible, sl_loop] def loop5 (v : X F) (r : IVec S64x16384 32) (G6 : BufTy.Contents (Elt F) arg6.view.ty) :
    LoopInv (M := 𝕄) frame (wpE (defs₀ (F := F)) 𝒱₀ (c : Thread nD τ) none) Set.univ k0_t5_loop.lb k0_t5_loop.ub k0_t5_loop.st k0_t5_ok r
      (k0_t5_body (F := F) i arg1 harg1 arg2 harg2 arg3 harg3 arg4 harg4 arg5 harg5 arg6 harg6 v) where
  inv k acc := iprop(⌜acc = lo5 (arg6.view.read (Elt F) G6) v r k⌝ ∗ held c arg6 G6)
  step k acc := by
    have hk : k.val < 16384 := Nat.lt_of_lt_of_le k.isLt k0_t5_abs.2.1
    unfold k0_t5_body
    iintro ⟨%ha, H6⟩
    sl_exec
    sl_step
    isplitr
    · ipureintro
      rw [load_col arg6 G6 _ k.val (off4_eq k) _ rfl, ha]
      rfl
    iexact H6

theorem trips2 : k0_t2_loop.trips = 4 := by decide
theorem trips3 : k0_t3_loop.trips = 4 := by decide
theorem trips4 : k0_t4_loop.trips = 4 := by decide
theorem trips5 : k0_t5_loop.trips = 16384 := by decide +kernel
theorem trips1 : k0_t1_loop.trips = 32 := by decide

/-- The outer loop: one trip is `trip`. -/
@[instance_reducible, sl_loop] def loop1 (sum : Col F) (G4 : BufTy.Contents (Elt F) arg4.view.ty) (G5 : BufTy.Contents (Elt F) arg5.view.ty)
    (G6 : BufTy.Contents (Elt F) arg6.view.ty) :
    LoopInv (M := 𝕄) frame (wpE (defs₀ (F := F)) 𝒱₀ (c : Thread nD τ) none) Set.univ k0_t1_loop.lb k0_t1_loop.ub k0_t1_loop.st k0_t1_ok sum
      (k0_t1_body (F := F) i arg1 harg1 arg2 harg2 arg3 harg3 arg4 harg4 arg5 harg5 arg6 harg6) where
  inv k acc := iprop(⌜acc = (lo1 (arg4.view.read (Elt F) G4) (arg5.view.read (Elt F) G5) (arg6.view.read (Elt F) G6) sum k).sum⌝
    ∗ (∃ f, held c arg4 f ∗ ⌜arg4.view.read (Elt F) f = (lo1 (arg4.view.read (Elt F) G4) (arg5.view.read (Elt F) G5) (arg6.view.read (Elt F) G6) sum k).s⌝)
    ∗ (∃ f, held c arg5 f ∗ ⌜arg5.view.read (Elt F) f = (lo1 (arg4.view.read (Elt F) G4) (arg5.view.read (Elt F) G5) (arg6.view.read (Elt F) G6) sum k).e⌝)
    ∗ (∃ f, held c arg6 f ∗ ⌜arg6.view.read (Elt F) f = (lo1 (arg4.view.read (Elt F) G4) (arg5.view.read (Elt F) G5) (arg6.view.read (Elt F) G6) sum k).kh⌝))
  step k acc := by
    unfold k0_t1_body
    iintro ⟨%ha, ⟨%f4, H4, %h4⟩, ⟨%f5, H5, %h5⟩, ⟨%f6, H6, %h6⟩⟩
    sl_exec
    sl_step
    have e2 : Scf.trips k0_t2_loop.lb k0_t2_loop.ub k0_t2_loop.st = 4 := trips2
    have e3 : Scf.trips k0_t3_loop.lb k0_t3_loop.ub k0_t3_loop.st = 4 := trips3
    have h5' := ‹arg5.view.read (Elt F) fL2 = _›
    have h4' := ‹arg4.view.read (Elt F) fL0 = _›
    have h6' := ‹arg6.view.read (Elt F) fL1 = _›
    rw [e3, h4', e2] at h5'
    rw [e2] at h4' h6'
    rw [ha, h4, h5, h6] at h4' h5' h6'
    isplitr
    · ipureintro
      rw [View.readAt_full, h5']
      rfl
    isplitl [H4]
    · iexists _; isplitl [H4]; · iexact H4
      ipureintro; exact h4'
    isplitl [H5]
    · iexists _; isplitl [H5]; · iexact H5
      ipureintro; exact h5'
    · iexists _; isplitl [H6]; · iexact H6
      ipureintro; exact h6'

end Loops
end Cert.KernelIdeal.Hand

end
-- ==== Proof.KernelIdealBody.lean ====
/- Hand-written, untrusted: THE KERNEL'S BODY, RUN ONCE: from the two input blocks it leaves `out` of them in the result's
   block. -/
module

public import proofs.«01_k».proof.Proof.KernelIdealLoops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body up to the searches: the running sum `khot x g` is read back and its ranks are counted. -/
theorem part1Run (c : Dev nD) (i : grid0.Coords)
    (arg1 : Mr) (harg1 : arg1.IsWhole) (arg2 : Mr) (harg2 : arg2.IsWhole) (arg3 : Mr) (harg3 : arg3.IsWhole)
    (arg4 : Mr) (harg4 : arg4.IsWhole) (arg5 : Mr) (harg5 : arg5.IsWhole) (arg6 : Mr) (harg6 : arg6.IsWhole)
    (f1 : BufTy.Contents (Elt F) arg1.view.ty) (f2 : BufTy.Contents (Elt F) arg2.view.ty) (f4 : BufTy.Contents (Elt F) arg4.view.ty)
    (f5 : BufTy.Contents (Elt F) arg5.view.ty) (f6 : BufTy.Contents (Elt F) arg6.view.ty) :
    iprop(held c arg1 f1 ∗ held c arg2 f2 ∗ held c arg4 f4 ∗ held c arg5 f5 ∗ held c arg6 f6)
      ⊢ wp frame (wpE (defs₀ (F := F)) 𝒱₀ (c : Thread nD τ) none) Set.univ
          (k0_part1 i arg1 harg1 arg2 harg2 arg3 harg3 arg4 harg4 arg5 harg5 arg6 harg6)
          (fun r => iprop(⌜r = ⟨khot (arg1.view.read (Elt F) f1) (arg2.view.read (Elt F) f2), rank (khot (arg1.view.read (Elt F) f1) (arg2.view.read (Elt F) f2)), k0_pay26, 0#32, 31#32⟩⌝
            ∗ held c arg1 f1 ∗ held c arg2 f2 ∗ (∃ f, held c arg4 f) ∗ (∃ f, held c arg5 f) ∗ (∃ f, held c arg6 f))) := by
  simp only [k0_part1_eq_skeleton]; unfold k0_part1_skel
  iintro ⟨H1, H2, H4, H5, H6⟩
  sl_exec
  sl_step
  have r4 : arg4.view.read (Elt F) (arg4.view.writes (Elt F) arg4.view.junk (part1Run.sl.H4_1 arg1 arg2 f1 f2))
      = k0_pay11 (arg1.view.read (Elt F) f1) (arg2.view.read (Elt F) f2) := by
    unfold part1Run.sl.H4_1; rw [View.read_writes_full, View.readAt_full, View.readAt_full]
  have r5 : arg5.view.read (Elt F) (arg5.view.writes (Elt F) arg5.view.junk (part1Run.sl.H5_1 (F := F))) = k0_pay12 := by
    unfold part1Run.sl.H5_1; rw [View.read_writes_full]
  have r6 : arg6.view.read (Elt F) (arg6.view.writes (Elt F) arg6.view.junk (part1Run.sl.H6_1 (F := F))) = k0_pay13 := by
    unfold part1Run.sl.H6_1; rw [View.read_writes_full]
  have t1 : Scf.trips k0_t1_loop.lb k0_t1_loop.ub k0_t1_loop.st = 32 := trips1
  have t4 : Scf.trips k0_t4_loop.lb k0_t4_loop.ub k0_t4_loop.st = 4 := trips4
  have t5 : Scf.trips k0_t5_loop.lb k0_t5_loop.ub k0_t5_loop.st = 16384 := trips5
  have h5 := hL4
  have h6 := hL6
  have hk := hL9
  rw [t1, r4, r5, r6] at h5 h6
  rw [h5, h6, t1, t4, r4, r5, r6] at hk
  have e : arg6.view.read (Elt F) fL3 = khot (arg1.view.read (Elt F) f1) (arg2.view.read (Elt F) f2) := hk
  isplitr
  · ipureintro
    rw [View.readAt_full, e, t5]
    rfl
  isplitl [H1]; · iexact H1
  isplitl [H2]; · iexact H2
  isplitl [H4]; · iexists _; iexact H4
  isplitl [H5]; · iexists _; iexact H5
  iexists _; iexact H6

/-- THE BODY, RUN ONCE: the block of the result is left holding `out` of the two input blocks, which are unchanged. -/
theorem kernelRun (c : Dev nD) (i : grid0.Coords)
    (arg1 : Mr) (harg1 : arg1.IsWhole) (arg2 : Mr) (harg2 : arg2.IsWhole) (arg3 : Mr) (harg3 : arg3.IsWhole)
    (arg4 : Mr) (harg4 : arg4.IsWhole) (arg5 : Mr) (harg5 : arg5.IsWhole) (arg6 : Mr) (harg6 : arg6.IsWhole)
    (x g : X F) (K : PUnit → sProp 𝕄) :
    iprop(owns (c : Thread nD τ) arg1 fullShare x ∗ owns (c : Thread nD τ) arg2 fullShare g ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare g ∗ owns (c : Thread nD τ) arg3 fullShare (out x g)
            ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) 𝒱₀ (c : Thread nD τ) none) Set.univ
          (cc0__gumbel_topk_block i arg1 harg1 arg2 harg2 arg3 harg3 arg4 harg4 arg5 harg5 arg6 harg6) K := by
  simp only [cc0__gumbel_topk_block_eq_skeleton]; unfold cc0__gumbel_topk_block_skel; unfold owns
  rw [wp_bind]
  iintro ⟨⟨%f1, %h1, H1⟩, ⟨%f2, %h2, H2⟩, ⟨%d3, %f3, -, H3⟩, ⟨%d4, %f4, -, H4⟩, ⟨%d5, %f5, -, H5⟩, ⟨%d6, %f6, -, H6⟩, Hk⟩
  iapply wp_wand_r (frame) (wpE (defs₀ (F := F)) 𝒱₀ (c : Thread nD τ) none) Set.univ (p := k0_part1 i arg1 harg1 arg2 harg2 arg3 harg3 arg4 harg4 arg5 harg5 arg6 harg6)
  isplitl [H1 H2 H4 H5 H6]
  · iapply part1Run c i arg1 harg1 arg2 harg2 arg3 harg3 arg4 harg4 arg5 harg5 arg6 harg6 f1 f2 f4 f5 f6
    isplitl [H1]; · iexact H1
    isplitl [H2]; · iexact H2
    isplitl [H4]; · iexact H4
    isplitl [H5]; · iexact H5
    iexact H6
  iintro %r ⟨%hr, H1, H2, ⟨%f4', H4⟩, ⟨%f5', H5⟩, ⟨%f6', H6⟩⟩
  subst hr
  sl_exec
  split
  · rename_i hc
    sl_exec
    sl_step
    iapply Hk
    isplitl [H1]; · iexists f1; isplitr; · ipureintro; exact h1
                    iexact H1
    isplitl [H2]; · iexists f2; isplitr; · ipureintro; exact h2
                    iexact H2
    isplitl [H3]
    · iexists _; isplitr
      rotate_left
      · iexact H3
      · ipureintro
        rw [View.read_writes_full]
        subst h1 h2
        exact (if_pos hc).symm
    isplitl [H4]
    · iexists (arg4.view.read (Elt F) f4'); iexists f4'; isplitr
      · ipureintro; rfl
      · iexact H4
    isplitl [H5]
    · iexists (arg5.view.read (Elt F) f5'); iexists f5'; isplitr
      · ipureintro; rfl
      · iexact H5
    iexists (arg6.view.read (Elt F) f6'); iexists f6'; isplitr
    · ipureintro; rfl
    · iexact H6
  · rename_i hc
    sl_exec
    sl_step
    iapply Hk
    isplitl [H1]; · iexists f1; isplitr; · ipureintro; exact h1
                    iexact H1
    isplitl [H2]; · iexists f2; isplitr; · ipureintro; exact h2
                    iexact H2
    isplitl [H3]
    · iexists _; isplitr
      rotate_left
      · iexact H3
      · ipureintro
        rw [View.read_writes_full]
        subst h1 h2
        exact (if_neg hc).symm
    isplitl [H4]
    · iexists (arg4.view.read (Elt F) f4'); iexists f4'; isplitr
      · ipureintro; rfl
      · iexact H4
    isplitl [H5]
    · iexists (arg5.view.read (Elt F) f5'); iexists f5'; isplitr
      · ipureintro; rfl
      · iexact H5
    iexists (arg6.view.read (Elt F) f6'); iexists f6'; isplitr
    · ipureintro; rfl
    · iexact H6

end Cert.KernelIdeal.Hand

end
-- ==== Proof.KernelIdealRun.lean ====
/- Hand-written, untrusted: THE LAUNCH: the pipeline's proof data (each input's buffer at its block, the result's at `out` of
   the two blocks), the body obligation, the run of `@main` and the frame. -/
module

public import proofs.«01_k».proof.Proof.KernelIdealBody
public import proofs.«01_k».proof.Proof.Gen.KernelIdeal.Frame
public import Idealize.ShloMosaic.Lib.Tactic
public import Idealize.ShloMosaic.PureOps.BitExact

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block at a point: `out` of the blocks of the scores and of the noise. -/
def outsAt (c : Dev nD) (t : Fin cfg0.N) : X F := out (iblk m c 0 t) (iblk m c 1 t)

/-- The arrays as the region finds them; after the body each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The three scratch buffers. -/
abbrev sc4 : Mr := Memref.whole cc0_scratch0
abbrev sc5 : Mr := Memref.whole cc0_scratch1
abbrev sc6 : Mr := Memref.whole cc0_scratch2

/-- What passes between the points: the three scratch buffers at any contents and the generator register. -/
theorem ΦA_open (c : Dev nD) : (Pipeline.ΦA spec0 c : sProp 𝕄)
    = iprop(((∃ d, owns (c : Thread nD τ) sc4 fullShare d) ∗ (∃ d, owns (c : Thread nD τ) sc5 fullShare d)
        ∗ (∃ d, owns (c : Thread nD τ) sc6 fullShare d)) ∗ (∃ r, prngReg c r)) := by
  unfold Pipeline.ΦA; rw [scopedRest0_eq]; simp only [sc4, sc5, sc6, owns_whole]; try rfl

/-- The body at every point keeps the proof data. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA_open, after0_0, after0_1, after0_2]
  unfold outsAt
  iintro ⟨⟨⟨H4, H5, H6⟩, Hg⟩, Ho, ⟨%d0, H0⟩, ⟨%d1, H1⟩, ⟨%d2, H2⟩⟩
  iapply (kernelRun c _ _ _ _ _ _ _ sc4 _ sc5 _ sc6 _ (iblk m c 0 t) (iblk m c 1 t) _)
  isplitl [H0]; · iexact H0
  isplitl [H1]; · iexact H1
  isplitl [H2]; · iexists _; iexact H2
  isplitl [H4]; · iexact H4
  isplitl [H5]; · iexact H5
  isplitl [H6]; · iexact H6
  iintro ⟨H0, H1, H2, H4, H5, H6⟩
  isplitl [H4 H5 H6 Hg]
  · isplitl [H4 H5 H6]
    · isplitl [H4]; · iexact H4
      isplitl [H5]; · iexact H5
      iexact H6
    iexact Hg
  isplitl [Ho]; · iexact Ho
  isplitl [H0]; · iexact H0
  isplitl [H1]; · iexact H1
  iexact H2

set_option backward.isDefEq.respectTransparency.types false in
/-- `@main` runs to its end from any memory with zero counters: every array of the pipeline at what the proof data compute, the
    other buffers at what the host lines leave, the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The frame: `@main` ends, leaves its argument as it was and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_with_sems (frame_of m ρ (dats m) fun _ _ => rfl) (run_main (F := F) m ρ)

end Cert.KernelIdeal.Hand

end
-- ==== Proof.RowMath.lean ====
/- Hand-written, untrusted: THE MATHEMATICS OF ONE ROW: the softmax chain that both programs compute row by row, on extended
   reals, and the fact that it stays among the real numbers when the row's largest entry is one. -/
module

public import Idealize.ShloMosaic.PureOps.Ideal
public import Idealize.ShloMosaic.Lib.IdealHost

@[expose] public section

noncomputable section

namespace Cert.Row

open Idealize.ShloMosaic

/-- The least positive normal number, the floor under the logarithm. -/
def eps : EReal := Ideal.ofBits .f32 0x00800000#32
/-- The temperature, the float nearest one tenth. -/
def tau : EReal := Ideal.ofBits .f32 0x3DCCCCCD#32

theorem eps_real : ∃ r : ℝ, 0 < r ∧ r ≤ 1 ∧ eps = (r : EReal) := by
  refine ⟨(2 : ℝ) ^ (-126 : ℤ), by positivity, ?_, ?_⟩
  · exact zpow_le_one_of_nonpos₀ (by norm_num) (by norm_num)
  · unfold eps
    simp [Ideal.ofBits, Ideal.ieee]
    rw [← EReal.coe_mul, EReal.coe_eq_coe_iff]
    norm_num

theorem tau_real : ∃ r : ℝ, 0 < r ∧ tau = (r : EReal) := by
  refine ⟨(13421773 : ℝ) * (2 : ℝ) ^ (-27 : ℤ), by positivity, ?_⟩
  unfold tau
  simp [Ideal.ofBits, Ideal.ieee]

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
theorem ofBits_zero : Ideal.ofBits .f32 0x00000000#32 = 0 := by simp [Ideal.ofBits, Ideal.ieee]

variable {n : ℕ}

/-- The logits of the next trip: what was just taken is masked out. -/
def next (s oh : Fin n → EReal) (j : Fin n) : EReal := s j + Ideal.log (max (1 - oh j) eps)
/-- The row's largest scaled logit. -/
def top (s : Fin n → EReal) : EReal := Finset.univ.fold max ⊥ (fun j => Ideal.div (s j) tau)
/-- The exponentials, shifted by the largest. -/
def ex (s : Fin n → EReal) (j : Fin n) : EReal := Ideal.exp (Ideal.div (s j) tau - top s)
/-- The row's softmax. -/
def soft (s : Fin n → EReal) (j : Fin n) : EReal := Ideal.div (ex s j) (∑ k, ex s k)

/-- The state of a row's chain: logits, softmax and running sum. -/
structure St (n : ℕ) where
  s : Fin n → EReal
  oh : Fin n → EReal
  kh : Fin n → EReal

/-- One trip of a row's chain. -/
def step (p : St n) : St n :=
  let s' := next p.s p.oh
  ⟨s', soft s', fun j => p.kh j + soft s' j⟩

theorem step_s (q : St n) : (step q).s = next q.s q.oh := rfl
theorem step_oh (q : St n) : (step q).oh = soft (step q).s := rfl
theorem step_kh (q : St n) (j : Fin n) : (step q).kh j = q.kh j + (step q).oh j := rfl

/-- The row's chain after `k` trips from the logits `s`. -/
def chain (s : Fin n → EReal) : ℕ → St n
  | 0 => ⟨s, fun _ => 0, fun _ => 0⟩
  | k + 1 => step (chain s k)

theorem chain_zero_kh (s : Fin n → EReal) (j : Fin n) : (chain s 0).kh j = 0 := rfl
theorem chain_zero_oh (s : Fin n → EReal) (j : Fin n) : (chain s 0).oh j = 0 := rfl
theorem chain_zero_s (s : Fin n → EReal) : (chain s 0).s = s := rfl
theorem chain_succ (s : Fin n → EReal) (k : ℕ) : chain s (k + 1) = step (chain s k) := rfl

/-- No entry is `⊤` and some entry is not `⊥`: the row's largest entry is a real number. -/
def Good (s : Fin n → EReal) : Prop := (∀ j, s j ≠ ⊤) ∧ ∃ j, s j ≠ ⊥

/-- A real number of the unit interval. -/
def Unit01 (x : EReal) : Prop := ∃ r : ℝ, 0 ≤ r ∧ r ≤ 1 ∧ x = (r : EReal)

theorem log_real (oh : EReal) (h : Unit01 oh) : ∃ r : ℝ, Ideal.log (max (1 - oh) eps) = (r : EReal) := by
  obtain ⟨a, ha0, ha1, rfl⟩ := h
  obtain ⟨e, he0, he1, he⟩ := eps_real
  refine ⟨Real.log (max (1 - a) e), ?_⟩
  have h1 : max (1 - (a : EReal)) eps = ((max (1 - a) e : ℝ) : EReal) := by
    rw [he, EReal.coe_strictMono.monotone.map_max]; norm_cast
  rw [h1, Ideal.log_coe, if_neg (not_le.mpr (lt_max_of_lt_right he0))]

theorem add_real_ne_top {x : EReal} (r : ℝ) (h : x ≠ ⊤) : x + (r : EReal) ≠ ⊤ := by
  induction x using EReal.rec with
  | bot => simp
  | coe a => exact_mod_cast EReal.coe_ne_top (a + r)
  | top => exact absurd rfl h

theorem add_real_ne_bot {x : EReal} (r : ℝ) (h : x ≠ ⊥) : x + (r : EReal) ≠ ⊥ := by
  induction x using EReal.rec with
  | bot => exact absurd rfl h
  | coe a => exact_mod_cast EReal.coe_ne_bot (a + r)
  | top => simp

theorem next_good (s oh : Fin n → EReal) (hs : Good s) (ho : ∀ j, Unit01 (oh j)) : Good (next s oh) := by
  obtain ⟨h1, j, hj⟩ := hs
  refine ⟨fun k => ?_, j, ?_⟩
  · obtain ⟨r, hr⟩ := log_real (oh k) (ho k)
    unfold next; rw [hr]; exact add_real_ne_top r (h1 k)
  · obtain ⟨r, hr⟩ := log_real (oh j) (ho j)
    unfold next; rw [hr]; exact add_real_ne_bot r hj

/-- Scaling by the temperature keeps an entry on its side of `⊤`. -/
theorem div_tau_ne_top {x : EReal} (h : x ≠ ⊤) : Ideal.div x tau ≠ ⊤ := by
  obtain ⟨t, ht, hτ⟩ := tau_real
  have ht' : (t : EReal) ≠ 0 := by exact_mod_cast ht.ne'
  rw [hτ, Ideal.div, if_neg ht', ← EReal.coe_inv]
  induction x using EReal.rec with
  | bot => rw [EReal.bot_mul_coe_of_pos (inv_pos.mpr ht)]; simp
  | coe a => exact_mod_cast EReal.coe_ne_top (a * t⁻¹)
  | top => exact absurd rfl h

/-- Scaling by the temperature keeps an entry on its side of `⊥`. -/
theorem div_tau_ne_bot {x : EReal} (h : x ≠ ⊥) : Ideal.div x tau ≠ ⊥ := by
  obtain ⟨t, ht, hτ⟩ := tau_real
  have ht' : (t : EReal) ≠ 0 := by exact_mod_cast ht.ne'
  rw [hτ, Ideal.div, if_neg ht', ← EReal.coe_inv]
  induction x using EReal.rec with
  | bot => exact absurd rfl h
  | coe a => exact_mod_cast EReal.coe_ne_bot (a * t⁻¹)
  | top => rw [EReal.top_mul_coe_of_pos (inv_pos.mpr ht)]; simp

theorem le_top (s : Fin n → EReal) (j : Fin n) : Ideal.div (s j) tau ≤ top s :=
  (Finset.fold_max_le (top s)).mp (le_refl (top s)) |>.2 j (Finset.mem_univ j)

/-- The largest scaled logit is one of them, when some logit is not `⊥`. -/
theorem top_attained (s : Fin n → EReal) (h : ∃ j, s j ≠ ⊥) : ∃ j, top s = Ideal.div (s j) tau := by
  obtain ⟨j, hj⟩ := h
  rcases (Finset.le_fold_max (top s)).mp (le_refl (top s)) with h | ⟨k, -, h⟩
  · exact absurd (le_bot_iff.mp ((le_top s j).trans h)) (div_tau_ne_bot hj)
  · exact ⟨k, le_antisymm h (le_top s k)⟩

theorem top_real (s : Fin n → EReal) (h : Good s) : ∃ t : ℝ, top s = (t : EReal) := by
  obtain ⟨j, hj⟩ := h.2
  obtain ⟨k, hk⟩ := top_attained s h.2
  refine ⟨(top s).toReal, (EReal.coe_toReal ?_ ?_).symm⟩
  · rw [hk]; exact div_tau_ne_top (h.1 k)
  · intro hb; exact div_tau_ne_bot hj (le_bot_iff.mp (hb ▸ le_top s j))

theorem ex_unit (s : Fin n → EReal) (h : Good s) (j : Fin n) : Unit01 (ex s j) := by
  obtain ⟨t, ht⟩ := top_real s h
  have hle := le_top s j
  unfold ex
  rw [ht] at hle ⊢
  generalize Ideal.div (s j) tau = y at hle
  induction y using EReal.rec with
  | bot => exact ⟨0, le_refl _, zero_le_one, by rw [EReal.bot_sub]; exact Ideal.exp_bot⟩
  | coe a =>
    refine ⟨Real.exp (a - t), Real.exp_nonneg _, Real.exp_le_one_iff.mpr ?_, ?_⟩
    · have : a ≤ t := by exact_mod_cast hle
      linarith
    · rw [← EReal.coe_sub]; rfl
  | top => simp at hle

theorem ex_one (s : Fin n → EReal) (h : Good s) : ∃ j, ex s j = 1 := by
  obtain ⟨t, ht⟩ := top_real s h
  obtain ⟨k, hk⟩ := top_attained s h.2
  refine ⟨k, ?_⟩
  unfold ex
  rw [← hk, ht, ← EReal.coe_sub, sub_self]
  show ((Real.exp 0 : ℝ) : EReal) = 1
  simp

theorem soft_unit (s : Fin n → EReal) (h : Good s) (j : Fin n) : Unit01 (soft s j) := by
  choose r hr0 hr1 hr using ex_unit s h
  obtain ⟨k, hk⟩ := ex_one s h
  have hk1 : r k = 1 := by
    have h2 := hr k; rw [hk] at h2; exact_mod_cast h2.symm
  have hle : ∀ i, r i ≤ ∑ i, r i := fun i => Finset.single_le_sum (fun i _ => hr0 i) (Finset.mem_univ i)
  have hpos : 0 < ∑ i, r i := lt_of_lt_of_le (by rw [hk1]; exact zero_lt_one) (hle k)
  have hsum : (∑ k, ex s k) = ((∑ i, r i : ℝ) : EReal) := by
    rw [Finset.sum_congr rfl (fun i _ => hr i)]; exact (map_sum (⟨⟨(↑), EReal.coe_zero⟩, EReal.coe_add⟩ : ℝ →+ EReal) r Finset.univ).symm
  have hne : ((∑ i, r i : ℝ) : EReal) ≠ 0 := by exact_mod_cast hpos.ne'
  refine ⟨r j * (∑ i, r i)⁻¹, mul_nonneg (hr0 j) (inv_nonneg.mpr hpos.le), ?_, ?_⟩
  · rw [← div_eq_mul_inv]; exact (div_le_one hpos).mpr (hle j)
  · unfold soft
    rw [hsum, hr j, Ideal.div, if_neg hne, ← EReal.coe_inv, ← EReal.coe_mul]

/-- The chain's state on a good row: good logits, softmax in the unit interval, a running sum of real numbers. -/
theorem chain_good (s : Fin n → EReal) (h : Good s) (k : ℕ) :
    Good (chain s k).s ∧ (∀ j, Unit01 ((chain s k).oh j)) ∧ ∀ j, ∃ r : ℝ, (chain s k).kh j = (r : EReal) := by
  induction k with
  | zero => exact ⟨h, fun _ => ⟨0, le_refl _, zero_le_one, by rfl⟩, fun _ => ⟨0, rfl⟩⟩
  | succ k ih =>
    obtain ⟨h1, h2, h3⟩ := ih
    have hg := next_good _ _ h1 h2
    refine ⟨hg, fun j => soft_unit _ hg j, fun j => ?_⟩
    obtain ⟨a, ha⟩ := h3 j
    obtain ⟨b, -, -, hb⟩ := soft_unit _ hg j
    refine ⟨a + b, ?_⟩
    show (chain s k).kh j + soft (next (chain s k).s (chain s k).oh) j = _
    rw [ha, hb]; rfl

/-- The straight-through sum at an unselected entry is zero, when the running sum there is a real number. -/
theorem zero_sub_add_real (r : ℝ) : (0 - (r : EReal)) + (r : EReal) = 0 := by
  rw [zero_sub, ← EReal.coe_neg, ← EReal.coe_add]; simp

end Cert.Row

end
-- ==== Proof.NoiseMath.lean ====
/- Hand-written, untrusted: THE NOISE OF ONE WORD: a random word makes a fraction in [0, 1), the fraction a uniform number strictly
   between 0 and 1, and that the Gumbel noise `-log (-log u)`, which is therefore a real number for every word. -/
module

public import proofs.«01_k».proof.Proof.RowMath

@[expose] public section

noncomputable section

namespace Cert.Noise

open Idealize.ShloMosaic

/-- The word's top 23 bits as the fraction of a float between one and two. -/
def word (b : BitVec 32) : BitVec 32 := (b >>> 9) ||| 0x3F800000#32

/-- The Gumbel noise that a random word makes. -/
def gumbel (b : BitVec 32) : EReal :=
  -Ideal.log (-Ideal.log (max Row.eps ((Ideal.ofBits .f32 (word b) - 1) * (1 - Row.eps) + Row.eps)))

/-- The least uniform number is a positive real below one. -/
theorem eps_small : ∃ r : ℝ, 0 < r ∧ r < 1 ∧ Row.eps = (r : EReal) := by
  obtain ⟨r, h0, h1, he⟩ := Row.eps_real
  refine ⟨r, h0, lt_of_le_of_ne h1 fun h => ?_, he⟩
  rw [h] at he
  have : Row.eps = (((2 : ℝ) ^ (-126 : ℤ) : ℝ) : EReal) := by
    unfold Row.eps
    simp [Ideal.ofBits, Ideal.ieee]
    rw [← EReal.coe_mul, EReal.coe_eq_coe_iff]
    norm_num
  rw [this, EReal.coe_eq_coe_iff] at he
  norm_num at he

/-- Such a word has the exponent of one … -/
theorem word_exponent (b : BitVec 32) : (word b).extractLsb' 23 8 = 127#8 := by
  unfold word
  ext i hi
  have hb : b.getLsbD (9 + (23 + i)) = false := BitVec.getLsbD_of_ge _ _ (by omega)
  have h32 : 23 + i < 32 := by omega
  simp only [BitVec.getElem_extractLsb', BitVec.getLsbD_or, BitVec.getLsbD_ushiftRight, hb, Bool.false_or]
  clear hb h32
  revert i
  decide

/-- … and no sign. -/
theorem word_sign (b : BitVec 32) : (word b).extractLsb' 31 1 = 0#1 := by
  unfold word
  ext i hi
  have hb : b.getLsbD (9 + (31 + i)) = false := BitVec.getLsbD_of_ge _ _ (by omega)
  simp only [BitVec.getElem_extractLsb', BitVec.getLsbD_or, BitVec.getLsbD_ushiftRight, hb, Bool.false_or]
  clear hb
  revert i
  decide

/-- The float with that word lies between one and two. -/
theorem word_real (b : BitVec 32) : ∃ f : ℝ, 0 ≤ f ∧ f < 1 ∧ Ideal.ofBits .f32 (word b) = ((1 + f : ℝ) : EReal) := by
  have hfr : ((word b).extractLsb' 0 23).toNat < 2 ^ 23 := ((word b).extractLsb' 0 23).isLt
  refine ⟨(((word b).extractLsb' 0 23).toNat : ℝ) / 2 ^ 23, by positivity, ?_, ?_⟩
  · rw [div_lt_one (by positivity)]; exact_mod_cast hfr
  · show Ideal.ieee 8 23 (word b) = _
    unfold Ideal.ieee
    generalize hf : ((word b).extractLsb' 0 23).toNat = f at hfr
    simp only [word_exponent, show (word b).extractLsb' (8 + 23) 1 = 0#1 from word_sign b, hf]
    rw [if_neg (by decide), if_neg (by decide), if_neg (by decide), EReal.coe_eq_coe_iff]
    norm_num
    ring

/-- The noise of every word is a real number. -/
theorem gumbel_real (b : BitVec 32) : ∃ r : ℝ, gumbel b = (r : EReal) := by
  obtain ⟨f, hf0, hf1, hf⟩ := word_real b
  obtain ⟨t, ht0, ht1, ht⟩ := eps_small
  have hu : max Row.eps ((Ideal.ofBits .f32 (word b) - 1) * (1 - Row.eps) + Row.eps) = ((max t (f * (1 - t) + t) : ℝ) : EReal) := by
    rw [hf, ht, EReal.coe_strictMono.monotone.map_max]
    congr 1
    rw [← EReal.coe_one, ← EReal.coe_sub, ← EReal.coe_sub, ← EReal.coe_mul, ← EReal.coe_add]
    congr 2
    ring
  have h0 : 0 < max t (f * (1 - t) + t) := lt_max_of_lt_left ht0
  have h1 : max t (f * (1 - t) + t) < 1 := max_lt ht1 (by nlinarith)
  have hl : 0 < -Real.log (max t (f * (1 - t) + t)) := neg_pos.mpr (Real.log_neg h0 h1)
  unfold gumbel
  rw [hu, Ideal.log_coe, if_neg (not_le.mpr h0), ← EReal.coe_neg, Ideal.log_coe, if_neg (not_le.mpr hl), ← EReal.coe_neg]
  exact ⟨_, rfl⟩

end Cert.Noise

end
-- ==== Proof.Noise.lean ====
/- Hand-written, untrusted: THE NOISE: the two programs make the same noise array, and every entry of it is a real number. -/
module

public import proofs.«01_k».proof.Proof.Gen.ReferenceIdeal.Run
public import proofs.«01_k».proof.Proof.Gen.KernelIdeal.Frame
public import Idealize.ShloMosaic.Lib.Tactic
public import Idealize.ShloMosaic.Lib.Pointwise
public import Idealize.ShloMosaic.Lib.IdealHost
public import proofs.«01_k».proof.Proof.NoiseMath

@[expose] public section

set_option maxRecDepth 16384
set_option maxHeartbeats 4000000

noncomputable section

namespace Cert.Noise

open Idealize.ShloMosaic Idealize.ShloMosaic.TcCoe
open Cert.KernelIdeal Cert.KernelIdeal.Gen

/-- The noise array that the host makes of the random words. -/
def ofWords (w : IVec S256x16384 32) : FVec Ideal S256x16384 .f32 :=
  let t : FVec Ideal S1x1 .f32 := broadcastInDim S1x1 ![] bcast_S_S1x1 (constant S_ .f32 0x00800000#32)
  let o : FVec Ideal S1x1 .f32 := broadcastInDim S1x1 ![] bcast_S_S1x1 (id (constant S_ .f32 0x3F800000#32))
  let b : IVec S256x16384 32 :=
    ori (Host.shrui w (broadcastInDim S256x16384 ![] bcast_S_S256x16384 (constantI S_ 32 9#32)))
      (broadcastInDim S256x16384 ![] bcast_S_S256x16384 (constantI S_ 32 1065353216#32))
  let f : FVec Ideal S256x16384 .f32 :=
    subf (bitcastToFloat .f32 b) (broadcastInDim S256x16384 ![] bcast_S_S256x16384 (constant S_ .f32 0x3F800000#32))
  let u : FVec Ideal S256x16384 .f32 :=
    addf (mulf f (broadcastInDim S256x16384 ![0, 1] bcast_S1x1_S256x16384_0_1 (subf o t)))
      (broadcastInDim S256x16384 ![0, 1] bcast_S1x1_S256x16384_0_1 t)
  Host.negf (Host.log (Host.negf (Host.log (maximumf (broadcastInDim S256x16384 ![0, 1] bcast_S1x1_S256x16384_0_1 t) u))))

/-- An entry of it is the noise of that word. -/
theorem ofWords_at (w : IVec S256x16384 32) (R : Fin 256) (j : Fin 16384) : ofWords w (ix2 R j) = gumbel (w (ix2 R j)) := by
  have hs : ∀ b : BitVec 32, IntOp.ori (IntOp.shrui ArithUnit.host b 9#32) 1065353216#32 = word b := fun b => by
    unfold IntOp.shrui word
    rw [if_pos (by decide)]
    rfl
  pointwise [ofWords, gumbel]
  rw [hs]
  show -Ideal.log (-Ideal.log (max Row.eps ((Ideal.ofBits .f32 (word (w (ix2 R j))) - 1) * (Ideal.ofBits .f32 0x3F800000#32 - Row.eps) + Row.eps))) = _
  rw [Ideal.ofBits_one_f32]

/-- The kernel's host makes its noise of the words it holds in the buffer before the shift. -/
theorem noise_words (V : Valuation τ sig (Elt Ideal)) :
    (StableHlo.after hostOps0_1 V (Proc.devRef .tc main_v9) : FVec Ideal S256x16384 .f32)
    = ofWords (StableHlo.after hostOps0_1 V (Proc.devRef .tc main_call0_call0_v19) : IVec S256x16384 32) := by
  unfold ofWords
  sl_kernel_rfl

/-- So every entry of the noise is a real number. -/
theorem noise_real (V : Valuation τ sig (Elt Ideal)) (R : Fin 256) (j : Fin 16384) :
    ∃ r : ℝ, (StableHlo.after hostOps0_1 V (Proc.devRef .tc main_v9) : FVec Ideal S256x16384 .f32) (ix2 R j) = (r : EReal) := by
  rw [noise_words, ofWords_at]
  exact gumbel_real _

/-- The two programs' hosts make the same noise, whatever their buffers held: neither its key nor its counter is an argument. -/
theorem noise_eq (VK : Valuation τ sig (Elt Ideal)) (VR : Valuation Cert.ReferenceIdeal.τ Cert.ReferenceIdeal.sig (Elt Ideal)) :
    (StableHlo.after hostOps0_1 (StableHlo.after hostOps0 VK) (Proc.devRef .tc main_v9) : FVec Ideal S256x16384 .f32)
    = (StableHlo.after Cert.ReferenceIdeal.Gen.hostOps0_1 (StableHlo.after Cert.ReferenceIdeal.Gen.hostOps0 VR)
        (Proc.devRef .tc Cert.ReferenceIdeal.main_v9) : FVec Ideal S256x16384 .f32) := by
  sl_kernel_rfl

end Cert.Noise

end
-- ==== Proof.Select.lean ====
/- Hand-written, untrusted: THE SELECTION, ON NATURAL NUMBERS: which positions of a row are among its `K` greatest, as the stable
   sort finds them, as a search for a threshold finds them, and that the two agree. -/
module

public import Idealize.ShloMosaic.Lib.SortNet.Threshold
public import Idealize.ShloMosaic.Lib.PlanTiles.StableSort
public import Mathlib.Data.Prod.Lex

@[expose] public section

namespace Cert.Select

open Idealize.ShloMosaic

/-! ## A search bit by bit -/

/-- One trip of the search: take the bit `b` if the predicate still holds with it. -/
def bit (P : ℕ → Prop) [DecidablePred P] (a b : ℕ) : ℕ := if P (a + 2 ^ b) then a + 2 ^ b else a

/-- After `k` of `B` trips the predicate holds, and one step of the bits still to come breaks it. -/
theorem search_inv (P : ℕ → Prop) [DecidablePred P] (B : ℕ) (h0 : P 0) (hB : ¬ P (2 ^ B)) (a : ℕ → ℕ) (ha0 : a 0 = 0)
    (hs : ∀ k, k < B → a (k + 1) = bit P (a k) (B - 1 - k)) (k : ℕ) (hk : k ≤ B) :
    P (a k) ∧ ¬ P (a k + 2 ^ (B - k)) ∧ 2 ^ (B - k) ∣ a k := by
  induction k with
  | zero => rw [ha0]; exact ⟨h0, by simpa using hB, dvd_zero _⟩
  | succ k ih =>
    obtain ⟨h1, h2, h3⟩ := ih (by omega)
    have e1 : B - 1 - k = B - (k + 1) := by omega
    have e2 : 2 ^ (B - k) = 2 ^ (B - (k + 1)) + 2 ^ (B - (k + 1)) := by
      rw [← two_mul, ← pow_succ']; congr 1; omega
    have h3' : 2 ^ (B - (k + 1)) ∣ a k := (Nat.pow_dvd_pow 2 (by omega)).trans h3
    rw [hs k (by omega), e1]
    unfold bit
    split
    · next h => exact ⟨h, by rw [add_assoc, ← e2]; exact h2, (Nat.dvd_add_right h3').mpr (dvd_refl _)⟩
    · next h => exact ⟨h1, h, h3'⟩

/-- The search ends at the last number at which a predicate that is closed downwards holds. -/
theorem search_end (P : ℕ → Prop) [DecidablePred P] (B : ℕ) (h0 : P 0) (hB : ¬ P (2 ^ B)) (a : ℕ → ℕ) (ha0 : a 0 = 0)
    (hs : ∀ k, k < B → a (k + 1) = bit P (a k) (B - 1 - k)) : P (a B) ∧ ¬ P (a B + 1) := by
  obtain ⟨h1, h2, -⟩ := search_inv P B h0 hB a ha0 hs B (le_refl B)
  exact ⟨h1, by simpa using h2⟩

/-- The search from zero, after `k` of `B` trips. -/
def srch (P : ℕ → Prop) [DecidablePred P] (B : ℕ) : ℕ → ℕ
  | 0 => 0
  | k + 1 => bit P (srch P B k) (B - 1 - k)

theorem srch_inv (P : ℕ → Prop) [DecidablePred P] (B : ℕ) (h0 : P 0) (hB : ¬ P (2 ^ B)) (k : ℕ) (hk : k ≤ B) :
    P (srch P B k) ∧ ¬ P (srch P B k + 2 ^ (B - k)) ∧ 2 ^ (B - k) ∣ srch P B k :=
  search_inv P B h0 hB (srch P B) rfl (fun _ _ => rfl) k hk

theorem srch_end (P : ℕ → Prop) [DecidablePred P] (B : ℕ) (h0 : P 0) (hB : ¬ P (2 ^ B)) :
    P (srch P B B) ∧ ¬ P (srch P B B + 1) :=
  search_end P B h0 hB (srch P B) rfl fun _ _ => rfl

/-- A bit added above which nothing below it is set is that bit or'ed in. -/
theorem or_two_pow (a b : ℕ) (h : 2 ^ (b + 1) ∣ a) : a ||| 2 ^ b = a + 2 ^ b := by
  obtain ⟨q, rfl⟩ := h
  exact (Nat.two_pow_add_eq_or_of_lt (Nat.pow_lt_pow_right (by norm_num) (Nat.lt_succ_self b)) q).symm

/-! ## The positions ahead of one, and the stable sort -/

variable {n : ℕ}

/-- Position `i` comes ahead of `j`: a greater value, or the same value at a lower index. -/
def Ahead (ρ : Fin n → ℕ) (i j : Fin n) : Prop := ρ j < ρ i ∨ (ρ i = ρ j ∧ i < j)

instance (ρ : Fin n → ℕ) (i j : Fin n) : Decidable (Ahead ρ i j) := by unfold Ahead; infer_instance

/-- Position `j` is among the `K` first: fewer than `K` come ahead of it. -/
def Chosen (K : ℕ) (ρ : Fin n → ℕ) (j : Fin n) : Prop := (Finset.univ.filter (fun i => Ahead ρ i j)).card < K

/-- A position's place in the order "greater value first, then lower index". -/
def key (ρ : Fin n → ℕ) (j : Fin n) : ℕ ×ₗ (Fin n)ᵒᵈ := toLex (ρ j, OrderDual.toDual j)

theorem key_lt (ρ : Fin n → ℕ) (i j : Fin n) : key ρ j < key ρ i ↔ Ahead ρ i j := by
  unfold key Ahead
  rw [Prod.Lex.toLex_lt_toLex]
  constructor
  · rintro (h | ⟨h, h'⟩)
    · exact Or.inl h
    · exact Or.inr ⟨h.symm, h'⟩
  · rintro (h | ⟨h, h'⟩)
    · exact Or.inl h
    · exact Or.inr ⟨h.symm, h'⟩

theorem key_injective (ρ : Fin n → ℕ) : Function.Injective (key ρ) := fun a b h => by
  have h2 : OrderDual.toDual a = OrderDual.toDual b := congrArg (fun x => (ofLex x).2) h
  exact h2

theorem countP_finRange (p : Fin n → Prop) [DecidablePred p] :
    (List.finRange n).countP (fun i => decide (p i)) = (Finset.univ.filter p).card := by
  rw [List.countP_eq_length_filter]
  rfl

/-- In a list of all positions in the order "ahead", as many are ahead of a place's position as there are places before it. -/
theorem card_ahead_list (ρ : Fin n → ℕ) (L : List (Fin n)) (hpw : L.Pairwise (PlanTiles.Lex ρ (· < ·)))
    (hperm : L.Perm (List.finRange n)) (k : ℕ) (hk : k < L.length) :
    (Finset.univ.filter (fun i => Ahead ρ i L[k])).card = k := by
  have hs : (L.map (key ρ)).Pairwise (· ≥ ·) := by
    rw [List.pairwise_map]
    exact hpw.imp fun {a b} h => ((key_lt ρ a b).mpr h).le
  have hn : (L.map (key ρ)).Nodup := (hperm.nodup_iff.mpr (List.nodup_finRange n)).map (key_injective ρ)
  have hi : k < (L.map (key ρ)).length := by rw [List.length_map]; exact hk
  have h := SortNet.countP_gt_eq_index hs hn k hi
  rw [List.countP_map, hperm.countP_eq] at h
  rw [← countP_finRange]
  refine Eq.trans (congrArg (fun p => List.countP p (List.finRange n)) (funext fun i => ?_)) h
  rw [List.getElem_map]
  exact decide_eq_decide.mpr (key_lt ρ i L[k]).symm

/-- As many positions come ahead of the one the stable sort puts at place `k` as there are places before it. -/
theorem card_ahead_sorted (ρ : Fin n → ℕ) (k : Fin n) :
    (Finset.univ.filter (fun i => Ahead ρ i (sortedFrom (fun a b => decide (ρ b < ρ a)) k))).card = k.val :=
  card_ahead_list ρ (sortPositions n (fun a b => decide (ρ b < ρ a)))
    (PlanTiles.pairwise_stableSort_lex ρ (· < ·) (List.finRange n) (List.pairwise_lt_finRange n))
    (perm_sortPositions n _) k.val (by rw [length_sortPositions]; exact k.isLt)

/-- THE STABLE SORT'S FIRST `K` PLACES hold exactly the chosen positions. -/
theorem chosen_iff_sorted (K : ℕ) (ρ : Fin n → ℕ) (j : Fin n) :
    (∃ k : Fin n, k.val < K ∧ sortedFrom (fun a b => decide (ρ b < ρ a)) k = j) ↔ Chosen K ρ j := by
  constructor
  · rintro ⟨k, hk, rfl⟩
    unfold Chosen; rw [card_ahead_sorted]; exact hk
  · intro h
    obtain ⟨k, rfl⟩ := sortedFrom_surjective (fun a b => decide (ρ b < ρ a)) j
    refine ⟨k, ?_, rfl⟩
    unfold Chosen at h; rwa [card_ahead_sorted] at h

/-! ## The threshold and the cut among the tied -/

/-- How many positions have a value of at least `t`. -/
def atLeast (ρ : Fin n → ℕ) (t : ℕ) : ℕ := (Finset.univ.filter (fun i => t ≤ ρ i)).card
/-- How many positions of value `t` lie below the index `a`. -/
def tiedBelow (ρ : Fin n → ℕ) (t a : ℕ) : ℕ := (Finset.univ.filter (fun i : Fin n => ρ i = t ∧ i.val < a)).card

theorem atLeast_anti (ρ : Fin n → ℕ) {s t : ℕ} (h : s ≤ t) : atLeast ρ t ≤ atLeast ρ s :=
  Finset.card_le_card fun i => by simp only [Finset.mem_filter, Finset.mem_univ, true_and]; exact fun h' => h.trans h'

theorem tiedBelow_mono (ρ : Fin n → ℕ) (t : ℕ) {a b : ℕ} (h : a ≤ b) : tiedBelow ρ t a ≤ tiedBelow ρ t b :=
  Finset.card_le_card fun i => by
    simp only [Finset.mem_filter, Finset.mem_univ, true_and]; exact fun h' => ⟨h'.1, lt_of_lt_of_le h'.2 h⟩

theorem atLeast_eq (ρ : Fin n → ℕ) (t a : ℕ) (ha : n ≤ a) : atLeast ρ t = atLeast ρ (t + 1) + tiedBelow ρ t a := by
  unfold atLeast tiedBelow
  rw [← Finset.card_union_of_disjoint]
  · congr 1; ext i
    have := i.isLt
    simp only [Finset.mem_filter, Finset.mem_univ, true_and, Finset.mem_union]; omega
  · rw [Finset.disjoint_left]; intro i
    simp only [Finset.mem_filter, Finset.mem_univ, true_and]; omega

theorem ahead_above {K : ℕ} (ρ : Fin n → ℕ) (t : ℕ) (h1 : atLeast ρ (t + 1) < K) (j : Fin n) (h : t < ρ j) : Chosen K ρ j := by
  refine lt_of_le_of_lt (Finset.card_le_card fun i => ?_) h1
  simp only [Finset.mem_filter, Finset.mem_univ, true_and, Ahead, Fin.lt_def]; omega

theorem ahead_below {K : ℕ} (ρ : Fin n → ℕ) (t : ℕ) (h0 : K ≤ atLeast ρ t) (j : Fin n) (h : ρ j < t) : ¬ Chosen K ρ j := by
  refine not_lt.mpr (h0.trans (Finset.card_le_card fun i => ?_))
  simp only [Finset.mem_filter, Finset.mem_univ, true_and, Ahead, Fin.lt_def]; omega

theorem ahead_tied (ρ : Fin n → ℕ) (j : Fin n) :
    (Finset.univ.filter (fun i => Ahead ρ i j)).card = atLeast ρ (ρ j + 1) + tiedBelow ρ (ρ j) j.val := by
  unfold atLeast tiedBelow
  rw [← Finset.card_union_of_disjoint]
  · congr 1; ext i
    simp only [Finset.mem_filter, Finset.mem_univ, true_and, Finset.mem_union, Ahead, Fin.lt_def]; omega
  · rw [Finset.disjoint_left]; intro i
    simp only [Finset.mem_filter, Finset.mem_univ, true_and]; omega

/-- THE CLEAN CASE: the threshold's count is exactly `K`. -/
theorem chosen_clean {K : ℕ} (ρ : Fin n → ℕ) (t : ℕ) (h0 : atLeast ρ t = K) (j : Fin n) : Chosen K ρ j ↔ t ≤ ρ j := by
  constructor
  · intro h; by_contra hlt; exact ahead_below ρ t h0.ge j (not_le.mp hlt) h
  · intro h
    unfold Chosen
    rw [← h0]
    refine Finset.card_lt_card ⟨fun i => ?_, fun hsub => ?_⟩
    · simp only [Finset.mem_filter, Finset.mem_univ, true_and, Ahead, Fin.lt_def]; omega
    · have := hsub (Finset.mem_filter.mpr ⟨Finset.mem_univ j, h⟩)
      rcases (Finset.mem_filter.mp this).2 with h' | h'
      · omega
      · exact lt_irrefl _ h'.2

/-- THE GENERAL CASE: everything above the threshold, and of the tied those up to the last index below which fewer than the
    needed number of tied positions lie. -/
theorem chosen_cut {K : ℕ} (ρ : Fin n → ℕ) (t a : ℕ) (h0 : K ≤ atLeast ρ t) (h1 : atLeast ρ (t + 1) < K)
    (ha : tiedBelow ρ t a < K - atLeast ρ (t + 1)) (ha' : ¬ tiedBelow ρ t (a + 1) < K - atLeast ρ (t + 1)) (j : Fin n) :
    Chosen K ρ j ↔ t < ρ j ∨ (ρ j = t ∧ j.val ≤ a) := by
  rcases lt_trichotomy (ρ j) t with h | h | h
  · exact ⟨fun hc => absurd hc (ahead_below ρ t h0 j h), fun hc => by omega⟩
  · unfold Chosen
    rw [ahead_tied, h]
    constructor
    · intro hc
      refine Or.inr ⟨rfl, ?_⟩
      by_contra hja
      have := tiedBelow_mono ρ t (a := a + 1) (b := j.val) (by omega)
      omega
    · rintro (hc | ⟨-, hc⟩)
      · omega
      · have := tiedBelow_mono ρ t hc
        omega
  · exact ⟨fun _ => Or.inl h, fun _ => ahead_above ρ t h1 j h⟩

instance (K : ℕ) (ρ : Fin n → ℕ) (j : Fin n) : Decidable (Chosen K ρ j) := by unfold Chosen; infer_instance

theorem atLeast_zero (ρ : Fin n → ℕ) : atLeast ρ 0 = n := by
  unfold atLeast
  rw [Finset.filter_true_of_mem (fun i _ => Nat.zero_le _), Finset.card_univ, Fintype.card_fin]

theorem atLeast_le (ρ : Fin n → ℕ) (t : ℕ) : atLeast ρ t ≤ n := by
  exact (atLeast_anti ρ (Nat.zero_le t)).trans (atLeast_zero ρ).le

theorem atLeast_eq_zero (ρ : Fin n → ℕ) (t : ℕ) (h : ∀ j, ρ j < t) : atLeast ρ t = 0 := by
  unfold atLeast
  rw [Finset.card_eq_zero, Finset.filter_eq_empty_iff]
  exact fun i _ => not_le.mpr (h i)

theorem lt_of_atLeast (ρ : Fin n → ℕ) (t m : ℕ) (hm : ∀ j, ρ j < m) (h : 0 < atLeast ρ t) : t < m := by
  by_contra hle
  rw [atLeast_eq_zero ρ t fun j => lt_of_lt_of_le (hm j) (not_lt.mp hle)] at h
  exact lt_irrefl _ h

theorem tiedBelow_zero (ρ : Fin n → ℕ) (t : ℕ) : tiedBelow ρ t 0 = 0 := by
  unfold tiedBelow
  rw [Finset.card_eq_zero, Finset.filter_eq_empty_iff]
  exact fun i _ h => absurd h.2 (Nat.not_lt_zero _)

theorem tiedBelow_le (ρ : Fin n → ℕ) (t a : ℕ) : tiedBelow ρ t a ≤ n := by
  have h := Finset.card_filter_le (Finset.univ : Finset (Fin n)) (fun i => ρ i = t ∧ i.val < a)
  rwa [Finset.card_univ, Fintype.card_fin] at h

/-! ## Ranks -/

variable {α : Type*} [LinearOrder α]

/-- The rank of position `j` of a row: how many of the row's values are less than its. -/
def rk (v : Fin n → α) (j : Fin n) : ℕ := (Finset.univ.filter (fun i => v i < v j)).card

theorem rk_lt_rk (v : Fin n → α) (i j : Fin n) : rk v i < rk v j ↔ v i < v j := by
  constructor
  · intro h
    by_contra hle
    refine absurd h (not_lt.mpr (Finset.card_le_card fun k => ?_))
    simp only [Finset.mem_filter, Finset.mem_univ, true_and]
    exact fun hk => lt_of_lt_of_le hk (not_lt.mp hle)
  · intro h
    refine Finset.card_lt_card ⟨fun k => ?_, fun hsub => ?_⟩
    · simp only [Finset.mem_filter, Finset.mem_univ, true_and]
      exact fun hk => hk.trans h
    · have h2 := hsub (Finset.mem_filter.mpr ⟨Finset.mem_univ i, h⟩)
      exact lt_irrefl _ (Finset.mem_filter.mp h2).2

theorem rk_lt (v : Fin n → α) (j : Fin n) : rk v j < n := by
  have h : (Finset.univ.filter (fun i => v i < v j)).card < (Finset.univ : Finset (Fin n)).card :=
    Finset.card_lt_card ⟨Finset.filter_subset _ _, fun hsub =>
      lt_irrefl _ (Finset.mem_filter.mp (hsub (Finset.mem_univ j))).2⟩
  rwa [Finset.card_univ, Fintype.card_fin] at h

theorem card_below_succ (p : Fin n → Prop) [DecidablePred p] (m : Fin n) :
    (Finset.univ.filter (fun i : Fin n => i.val < m.val + 1 ∧ p i)).card
      = (Finset.univ.filter (fun i : Fin n => i.val < m.val ∧ p i)).card + (if p m then 1 else 0) := by
  by_cases h : p m
  · rw [if_pos h, ← Finset.card_insert_of_notMem (a := m) (by simp)]
    congr 1; ext i
    simp only [Finset.mem_filter, Finset.mem_univ, true_and, Finset.mem_insert]
    constructor
    · rintro ⟨h1, h2⟩
      rcases Nat.lt_or_eq_of_le (Nat.le_of_lt_succ h1) with h3 | h3
      · exact Or.inr ⟨h3, h2⟩
      · exact Or.inl (Fin.ext h3)
    · rintro (rfl | ⟨h1, h2⟩)
      · exact ⟨Nat.lt_succ_self _, h⟩
      · exact ⟨Nat.lt_succ_of_lt h1, h2⟩
  · rw [if_neg h, add_zero]
    congr 1; ext i
    simp only [Finset.mem_filter, Finset.mem_univ, true_and]
    constructor
    · rintro ⟨h1, h2⟩
      rcases Nat.lt_or_eq_of_le (Nat.le_of_lt_succ h1) with h3 | h3
      · exact ⟨h3, h2⟩
      · exact absurd (Fin.ext h3 ▸ h2) h
    · rintro ⟨h1, h2⟩; exact ⟨Nat.lt_succ_of_lt h1, h2⟩

theorem card_below_zero (p : Fin n → Prop) [DecidablePred p] :
    (Finset.univ.filter (fun i : Fin n => i.val < 0 ∧ p i)).card = 0 := by
  rw [Finset.card_eq_zero, Finset.filter_eq_empty_iff]
  exact fun i _ h => absurd h.1 (Nat.not_lt_zero _)

theorem card_below_all (p : Fin n → Prop) [DecidablePred p] :
    (Finset.univ.filter (fun i : Fin n => i.val < n ∧ p i)).card = (Finset.univ.filter p).card := by
  congr 1; ext i
  simp only [Finset.mem_filter, Finset.mem_univ, true_and, i.isLt]

end Cert.Select
-- ==== Proof.RowReduce.lean ====
/- Hand-written, untrusted: reductions of an array along its rows, and the top-k of a row, at an index; for any extents. -/
module

public import Idealize.ShloMosaic.Lib.Pointwise
public import Idealize.ShloMosaic.PureOps.Reduce
public import proofs.«01_k».proof.Proof.Select

@[expose] public section

noncomputable section

namespace Cert.RowReduce

open Idealize.ShloMosaic

variable {n0 n1 n2 : ℕ}

/-- The maximum of a row. -/
theorem max_row {u : Shape} (h : (⟨2, ![n0, n1]⟩ : Shape).ReducesTo [1] ⟨1, ![n0]⟩) (x : (⟨2, ![n0, n1]⟩ : Shape).Idx → EReal)
    (init : u.Idx → EReal) (hu : 0 < u.numel) (R : Fin n0) :
    Host.reduce (FloatOps.maximumf (F := Ideal) (φ := .f32)) x init h hu (ix1 R)
      = (Finset.univ : Finset (Fin n1)).fold max (init (Shape.Idx.first hu)) (fun k => x (ix2 R k)) := by
  show Host.reduce (max : EReal → EReal → EReal) x init h hu (ix1 R) = _
  rw [Host.reduce_eq_fold, h.fold_fiber_r2_a1]
  rfl

/-- The maximum over the indices that drop to `j` stays below every `c` that bounds it strictly, element by element. -/
theorem max_lt {s t u : Shape} {axes : List (Fin s.rank)} (h : s.ReducesTo axes t) (x : s.Idx → EReal) (init : u.Idx → EReal) (hu : 0 < u.numel)
    (j : t.Idx) (c : EReal) (hm : Host.reduce (FloatOps.maximumf (F := Ideal) (φ := .f32)) x init h hu j < c) (i : s.Idx) (hi : h.drop i = j) : x i < c := by
  have hm : Host.reduce (max : EReal → EReal → EReal) x init h hu j < c := hm
  rw [Host.reduce_eq_fold, Finset.fold_max_lt] at hm
  exact hm.2 i (by simp [hi])

/-- The maximum over the indices that drop to `j` exceeds `c` only where the initial value or an element does. -/
theorem lt_max {s t u : Shape} {axes : List (Fin s.rank)} (h : s.ReducesTo axes t) (x : s.Idx → EReal) (init : u.Idx → EReal) (hu : 0 < u.numel)
    (j : t.Idx) (c : EReal) (hm : c < Host.reduce (FloatOps.maximumf (F := Ideal) (φ := .f32)) x init h hu j) :
    c < init (Shape.Idx.first hu) ∨ ∃ i, h.drop i = j ∧ c < x i := by
  have hm : c < Host.reduce (max : EReal → EReal → EReal) x init h hu j := hm
  rw [Host.reduce_eq_fold, Finset.lt_fold_max] at hm
  refine hm.imp id fun ⟨i, hi, hc⟩ => ⟨i, ?_, hc⟩
  simpa using hi

theorem fold_ori {ι : Type} [DecidableEq ι] (S : Finset ι) (f : ι → BitVec 1) : S.fold IntOp.ori 0#1 f = 1#1 ↔ ∃ i ∈ S, f i = 1#1 := by
  induction S using Finset.induction_on with
  | empty => simp
  | insert a S ha ih =>
    have key : ∀ p q : BitVec 1, IntOp.ori p q = 1#1 ↔ p = 1#1 ∨ q = 1#1 := by decide
    rw [Finset.fold_insert ha, key, ih, Finset.exists_mem_insert]

/-- The disjunction along the middle axis. -/
theorem or_mid {u : Shape} (h : (⟨3, ![n0, n1, n2]⟩ : Shape).ReducesTo [1] ⟨2, ![n0, n2]⟩) (x : (⟨3, ![n0, n1, n2]⟩ : Shape).Idx → BitVec 1)
    (init : u.Idx → BitVec 1) (hu : 0 < u.numel) (h0 : init (Shape.Idx.first hu) = 0#1) (R : Fin n0) (j : Fin n2) :
    Host.reduce IntOp.ori x init h hu (ix2 R j) = 1#1 ↔ ∃ k : Fin n1, x (ix3 R k j) = 1#1 := by
  rw [Host.reduce_eq_fold, h.fold_fiber_r3_a1, h0, fold_ori]
  simp only [Finset.mem_univ, true_and]
  rfl

/-- Another place along a row. -/
theorem along_row (R : Fin n0) (q q' : Fin n1) : (ix2 R q : (⟨2, ![n0, n1]⟩ : Shape).Idx).along 1 q' = ix2 R q' := by
  funext a
  unfold Shape.Idx.along
  fin_cases a
  · exact Function.update_of_ne (Fin.ne_of_val_ne Nat.zero_ne_one) _ _
  · exact Function.update_self _ _ _

/-- The index word that the top-k of a row has at place `k`: the position that the stable sort, greater first, puts there. -/
theorem topK_index {K : ℕ} (x : FVec Ideal ⟨2, ![n0, n1]⟩ .f32) (h : (⟨2, ![n0, n1]⟩ : Shape).Slices (fun _ => 0) ⟨2, ![n0, K]⟩)
    (R : Fin n0) (k : Fin K) (hk : k.val < n1) :
    (Host.topK ⟨2, ![n0, K]⟩ 1 (FloatOps.cmpfTotal .gt) x h).2 (ix2 R k)
      = BitVec.ofNat 32 (sortedFrom (fun a b => decide (x (ix2 R b) < x (ix2 R a))) (⟨k.val, hk⟩ : Fin n1)).val := by
  have hd : 1 < (⟨2, ![n0, n1]⟩ : Shape).rank := Nat.lt_succ_self 1
  unfold Host.topK Host.sort2
  simp only [dif_pos hd]
  have key : ∀ i : (⟨2, ![n0, n1]⟩ : Shape).Idx, i = ix2 R ⟨k.val, hk⟩ →
      iotaInDim ⟨2, ![n0, n1]⟩ 32 ⟨1, hd⟩ (i.along ⟨1, hd⟩ (sortedFrom
        (fun k k' => FloatOps.cmpfTotal .gt (x (i.along ⟨1, hd⟩ k)) (x (i.along ⟨1, hd⟩ k')) == 1#1) (i ⟨1, hd⟩)))
      = BitVec.ofNat 32 (sortedFrom (fun a b => decide (x (ix2 R b) < x (ix2 R a))) (⟨k.val, hk⟩ : Fin n1)).val := by
    rintro i rfl
    have e : (fun a b : Fin n1 => FloatOps.cmpfTotal .gt (x ((ix2 R (⟨k.val, hk⟩ : Fin n1)).along 1 a)) (x ((ix2 R (⟨k.val, hk⟩ : Fin n1)).along 1 b)) == 1#1)
        = fun a b => decide (x (ix2 R b) < x (ix2 R a)) := by
      funext a b
      rw [along_row, along_row]
      show (BitVec.ofBool (decide (x (ix2 R b) < x (ix2 R a))) == 1#1) = _
      cases decide (x (ix2 R b) < x (ix2 R a)) <;> rfl
    rw [← e]
    unfold iotaInDim
    exact congrArg (fun q : (⟨2, ![n0, n1]⟩ : Shape).Idx => BitVec.ofNat 32 (q 1).val) (along_row R _ _)
  refine key _ ?_
  funext a
  fin_cases a <;> exact Fin.ext (Nat.zero_add _)

end Cert.RowReduce

end
-- ==== Proof.Scores.lean ====
/- Hand-written, untrusted: THE SCORES BY ROWS: the host's transpose and reshape of the argument, and what the precondition says
   of a row: no entry is infinite from above, and some entry is finite. -/
module

public import proofs.«01_k».proof.Defs
public import proofs.«01_k».proof.Proof.Gen.KernelIdeal
public import proofs.«01_k».proof.Proof.RowMath
public import proofs.«01_k».proof.Proof.RowReduce
public import Idealize.ShloMosaic.Lib.Pointwise
public import Idealize.ShloMosaic.Lib.Pipeline.Value

@[expose] public section

set_option maxRecDepth 16384

noncomputable section

namespace Cert.Scores

open Idealize.ShloMosaic
open Cert.KernelIdeal Cert.KernelIdeal.Gen

/-- The scores of one batch element and one ensemble member as one row of 128 × 128 entries. -/
def rows (x : FVec Ideal S32x128x128x8 .f32) : FVec Ideal S256x16384 .f32 :=
  shapeCast S256x16384 (transpose S32x8x128x128 [0, 3, 1, 2] x transposes_S32x128x128x8_S32x8x128x128_0_3_1_2) shapeCasts_S32x8x128x128_S256x16384

/-- Entry `128 h + w` of row `8 b + e` is the score at `(b, h, w, e)`. -/
theorem rows_at (x : FVec Ideal S32x128x128x8 .f32) (b : Fin 32) (h w : Fin 128) (e : Fin 8) (R : Fin 256) (j : Fin 16384)
    (hR : 8 * b.val + e.val = R.val) (hj : 128 * h.val + w.val = j.val) : rows x (ix2 R j) = x (ix4 b h w e) := by
  unfold rows
  refine (shapeCast_apply _ _ (ix2 R j) (ix4 b e h w) ?_).trans ?_
  · rw [Shape.rowMajor_val_four, Shape.rowMajor_val_two]
    show ((b.val * 8 + e.val) * 128 + h.val) * 128 + w.val = R.val * 16384 + j.val
    omega
  · refine transpose_apply _ _ _ _ (ix4 b h w e) fun a => ?_
    match a with
    | ⟨0, _⟩ => rfl
    | ⟨1, _⟩ => rfl
    | ⟨2, _⟩ => rfl
    | ⟨3, _⟩ => rfl

/-- The shape facts that the precondition's function takes. -/
theorem pre_facts : Cert.Pre_rows_have_a_finite_maximum.Facts where
  reducesTo_S32x128x128x8_S32x8_d1_2 := by decide
  h_S_ := by decide
  bcast_S_S32x8 := by decide

/-- Where the two comparisons of the precondition are one, the number is finite. -/
theorem finite_of_cmp (v : EReal) (h : IntOp.andi (Ideal.cmp .ogt v ⊥) (Ideal.cmp .olt v ⊤) = 1#1) : ⊥ < v ∧ v < ⊤ := by
  have hc : ∀ p q : Bool, IntOp.andi (BitVec.ofBool p) (BitVec.ofBool q) = 1#1 → p = true ∧ q = true := by decide
  obtain ⟨h1, h2⟩ := hc _ _ h
  exact ⟨of_decide_eq_true h1, of_decide_eq_true h2⟩

/-- Where the maximum over some axes is finite, by the two comparisons, no element reduced there is `⊤` and one is not `⊥`. -/
theorem finite_max {s t u : Shape} {axes : List (Fin s.rank)} (h : s.ReducesTo axes t) (hu : 0 < u.numel) (d : Fin u.rank → Fin t.rank)
    (hb : u.BroadcastsInDim t d) (x : FVec Ideal s .f32)
    (hx : andi (cmpf .ogt (Host.reduce FloatOps.maximumf x (constant u .f32 0xFF800000#32) h hu : FVec Ideal t .f32)
          (broadcastInDim t d hb (constant u .f32 0xFF800000#32)))
        (cmpf .olt (Host.reduce FloatOps.maximumf x (constant u .f32 0xFF800000#32) h hu : FVec Ideal t .f32)
          (broadcastInDim t d hb (constant u .f32 0x7F800000#32))) = fun _ => 1#1) (j : t.Idx) :
    (∀ i, h.drop i = j → x i < ⊤) ∧ ∃ i, h.drop i = j ∧ ⊥ < x i := by
  have h1 := congrFun hx j
  generalize hM : (Host.reduce FloatOps.maximumf x (constant u .f32 0xFF800000#32) h hu : FVec Ideal t .f32) = M at h1
  have h2 : IntOp.andi (Ideal.cmp .ogt (M j) (Ideal.ofBits .f32 0xFF800000#32)) (Ideal.cmp .olt (M j) (Ideal.ofBits .f32 0x7F800000#32)) = 1#1 := h1
  rw [Row.ofBits_neg_inf, Row.ofBits_pos_inf] at h2
  obtain ⟨hlo, hhi⟩ := finite_of_cmp _ h2
  rw [← hM] at hlo hhi
  refine ⟨fun i hi => RowReduce.max_lt _ _ _ _ _ _ hhi i hi, ?_⟩
  rcases RowReduce.lt_max _ _ _ _ _ _ hlo with h0 | h0
  · have h0' : (⊥ : EReal) < Ideal.ofBits .f32 0xFF800000#32 := h0
    rw [Row.ofBits_neg_inf] at h0'
    exact absurd h0' (lt_irrefl _)
  · exact h0

/-- The maximum over the image's axes reduces the elements of one batch element and one ensemble member. -/
theorem drop_iff (h : S32x128x128x8.ReducesTo [1, 2] ⟨2, ![32, 8]⟩) (i : S32x128x128x8.Idx) (b : Fin 32) (e : Fin 8) :
    h.drop i = ix2 b e ↔ (i 0).val = b.val ∧ (i 3).val = e.val := by
  have h0 : (h.drop i 0).val = (i 0).val := Shape.ReducesTo.drop_apply_val_of_eq h i 0 0
  have h1 : (h.drop i 1).val = (i 3).val := Shape.ReducesTo.drop_apply_val_of_eq h i 1 3
  constructor
  · intro hd
    rw [hd] at h0 h1
    exact ⟨h0.symm, h1.symm⟩
  · intro ⟨e0, e1⟩
    funext a
    apply Fin.ext
    match a with
    | ⟨0, _⟩ => exact h0.trans e0
    | ⟨1, _⟩ => exact h1.trans e1

/-- Where, of the scores of each batch element and ensemble member, none is `⊤` and one is not `⊥`, the rows are good. -/
theorem rows_good (x : FVec Ideal S32x128x128x8 .f32) (h : S32x128x128x8.ReducesTo [1, 2] ⟨2, ![32, 8]⟩)
    (hx : ∀ j, (∀ i, h.drop i = j → x i < ⊤) ∧ ∃ i, h.drop i = j ∧ ⊥ < x i) (R : Fin 256) : Row.Good (fun j => rows x (ix2 R j)) := by
  have hb : R.val / 8 < 32 := by have := R.isLt; omega
  have he : R.val % 8 < 8 := Nat.mod_lt _ (by omega)
  obtain ⟨hall, i, hi, hlt⟩ := hx (ix2 ⟨R.val / 8, hb⟩ ⟨R.val % 8, he⟩)
  constructor
  · intro j
    have hh : j.val / 128 < 128 := by have := j.isLt; omega
    have hw : j.val % 128 < 128 := Nat.mod_lt _ (by omega)
    have e1 := rows_at x ⟨R.val / 8, hb⟩ ⟨j.val / 128, hh⟩ ⟨j.val % 128, hw⟩ ⟨R.val % 8, he⟩ R j (Nat.div_add_mod _ 8) (Nat.div_add_mod _ 128)
    exact e1.trans_ne (hall _ ((drop_iff h _ _ _).mpr ⟨rfl, rfl⟩)).ne
  · obtain ⟨v0, v3⟩ := (drop_iff h _ _ _).mp hi
    have i1 : (i 1).val < 128 := (i 1).isLt
    have i2 : (i 2).val < 128 := (i 2).isLt
    have e1 := rows_at x (i 0) (i 1) (i 2) (i 3) R ⟨128 * (i 1).val + (i 2).val, by omega⟩
      (by rw [v0, v3]; exact Nat.div_add_mod _ 8) rfl
    rw [ix4_eta] at e1
    exact ⟨_, e1.trans_ne hlt.ne'⟩

/-- The precondition, row by row. -/
theorem rows_finite (x : FVec Ideal S32x128x128x8 .f32)
    (hx : (@Cert.Pre_rows_have_a_finite_maximum.fn pre_facts Ideal _ x) = fun _ => 1#1) (R : Fin 256) :
    Row.Good (fun j => rows x (ix2 R j)) := by
  refine rows_good x pre_facts.reducesTo_S32x128x128x8_S32x8_d1_2 (fun j => ?_) R
  unfold Cert.Pre_rows_have_a_finite_maximum.fn at hx
  exact finite_max _ _ _ _ x hx j

end Cert.Scores

end
-- ==== Proof.ReferenceIdealRows.lean ====
/- Hand-written, untrusted: THE REFERENCE'S LOOP, ROW BY ROW: what its 32 trips make of a row is the row's chain of Proof/RowMath.lean. -/
module

public import proofs.«01_k».proof.Proof.Gen.ReferenceIdeal.Run
public import proofs.«01_k».proof.Proof.RowMath
public import proofs.«01_k».proof.Proof.RowReduce
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-- An array of rows, at the extended reals. -/
abbrev X : Type := FVec Ideal S256x16384 .f32

/-- A row of the array. -/
def row (x : X) (R : Fin 256) (j : Fin 16384) : EReal := x (ix2 R j)

/-- The contents of the program's buffers. -/
abbrev Vals : Type := Valuation τ sig (Elt Ideal)

def vs (V : Vals) : X := V (Proc.devRef .tc main_v13_2)
def vk (V : Vals) : X := V (Proc.devRef .tc main_v13_3)
def vo (V : Vals) : X := V (Proc.devRef .tc main_v13_4)

/-! ## One trip -/

theorem v32_at (V : Vals) (R : Fin 256) (j : Fin 16384) :
    (res_main_while0b_v32 V : X) (ix2 R j) = Row.next (row (vs V) R) (row (vo V) R) j := by
  pointwise [res_main_while0b_v32]
  rfl

theorem v34_at (V : Vals) (R : Fin 256) (j : Fin 16384) :
    (res_main_while0b_v34 V : X) (ix2 R j) = Ideal.div ((res_main_while0b_v32 V : X) (ix2 R j)) Row.tau := by
  pointwise [res_main_while0b_v34]
  rfl

/-- The exponentials at an index, over any array and any vector of row maxima. -/
theorem exp_at (x : X) (M : FVec Ideal S256 .f32) (R : Fin 256) (j : Fin 16384) :
    (Host.exp (subf x (broadcastInDim S256x16384 ![0, 1] bcast_S256x1_S256x16384_0_1 (broadcastInDim S256x1 ![0] bcast_S256_S256x1_0
      (maximumf (broadcastInDim S256 ![] bcast_S_S256 (constant S_ .f32 0xFF800000#32)) M)))) : X) (ix2 R j)
      = Ideal.exp (x (ix2 R j) - max (Ideal.ofBits .f32 0xFF800000#32) (M (ix1 R))) := by
  pointwise

theorem v41_at (V : Vals) (R : Fin 256) (j : Fin 16384) :
    (res_main_while0b_v41 V : X) (ix2 R j) = Row.ex (row (res_main_while0b_v32 V) R) j := by
  unfold res_main_while0b_v41
  rw [exp_at, RowReduce.max_row, v34_at, Row.ofBits_neg_inf, max_bot_left]
  unfold Row.ex Row.top
  have h0 : (constant S_ .f32 0xFF800000#32 : FVec Ideal S_ .f32) (Shape.Idx.first h_S_) = ⊥ := Row.ofBits_neg_inf
  rw [h0]
  have h1 : (fun k => (res_main_while0b_v34 V : X) (ix2 R k)) = fun k => Ideal.div (row (res_main_while0b_v32 V) R k) Row.tau :=
    funext fun k => v34_at V R k
  rw [h1]
  rfl

theorem v45_at (V : Vals) (R : Fin 256) (j : Fin 16384) :
    (res_main_while0b_v45 V : X) (ix2 R j) = Row.soft (row (res_main_while0b_v32 V) R) j := by
  pointwise [res_main_while0b_v45]
  rw [v41_at]
  exact congrArg (fun f : Fin 16384 → EReal => Ideal.div _ (∑ k, f k)) (funext fun k => v41_at V R k)

/-! ## The loop -/

/-- A row of the carried arrays. -/
def rowSt (V : Vals) (R : Fin 256) : Row.St 16384 := ⟨row (vs V) R, row (vo V) R, row (vk V) R⟩

theorem rowSt_step (V : Vals) (R : Fin 256) : rowSt (STEP V) R = Row.step (rowSt V R) := by
  have h32 : row (res_main_while0b_v32 V) R = Row.next (row (vs V) R) (row (vo V) R) := funext fun j => v32_at V R j
  have e1 : row (vs (STEP V)) R = Row.next (row (vs V) R) (row (vo V) R) := by
    unfold vs; rw [STEP_main_v13_2]; exact h32
  have h45 : row (res_main_while0b_v45 V) R = Row.soft (Row.next (row (vs V) R) (row (vo V) R)) :=
    funext fun j => (v45_at V R j).trans (by rw [h32])
  have e2 : row (vo (STEP V)) R = Row.soft (Row.next (row (vs V) R) (row (vo V) R)) := by
    unfold vo; rw [STEP_main_v13_4]; exact h45
  have e3 : row (vk (STEP V)) R = fun j => row (vk V) R j + Row.soft (Row.next (row (vs V) R) (row (vo V) R)) j := by
    unfold vk; rw [STEP_main_v13_3]
    exact funext fun j => congrArg (fun e => row (V (Proc.devRef .tc main_v13_3)) R j + e) (congrFun h45 j)
  unfold rowSt Row.step
  rw [e1, e2, e3]

/-- THE LOOP, ROW BY ROW: `k` trips from zeroed sums are `k` steps of the row's chain. -/
theorem rowSt_iter (V : Vals) (R : Fin 256) (s : Fin 16384 → EReal) (h : rowSt V R = Row.chain s 0) :
    ∀ k, rowSt (STEP^[k] V) R = Row.chain s k
  | 0 => h
  | k + 1 => by rw [Function.iterate_succ_apply', rowSt_step, rowSt_iter V R s h k]; rfl

/-! ## The selection -/

/-- What the reference makes of the running sums: the hard selection, and the sums taken from it and added again. -/
def hard (kh : X) : X :=
  addf (subf (uitofp .f32 (Host.reduce IntOp.ori (cmpi .eq (broadcastInDim S256x32x16384 ![0, 1, 2] bcast_S256x32x1_S256x32x16384_0_1_2 (broadcastInDim S256x32x1 ![0, 1] bcast_S256x32_S256x32x1_0_1 ((Host.topK S256x32 1 (FloatOps.cmpfTotal .gt) kh sliceFits_S256x16384_S256x32).2))) (broadcastInDim S256x32x16384 ![0, 1, 2] bcast_S1x1x16384_S256x32x16384_0_1_2 (broadcastInDim S1x1x16384 ![2] bcast_S16384_S1x1x16384_2 (iotaInDim S16384 32 0)))) (constantI S_ 1 0#1) reducesTo_S256x32x16384_S256x16384_d1 h_S_)) kh) kh

theorem out_eq (V : Vals) : (out_main_v25 V : FVec Ideal S32x128x128x8 .f32)
    = transpose S32x128x128x8 [0, 2, 3, 1] (shapeCast S32x8x128x128 (hard (vk V)) shapeCasts_S256x16384_S32x8x128x128) transposes_S32x8x128x128_S32x128x128x8_0_2_3_1 := rfl

theorem hit_at (idx : IVec S256x32 32) (R : Fin 256) (k : Fin 32) (j : Fin 16384) :
    (cmpi .eq (broadcastInDim S256x32x16384 ![0, 1, 2] bcast_S256x32x1_S256x32x16384_0_1_2 (broadcastInDim S256x32x1 ![0, 1] bcast_S256x32_S256x32x1_0_1 idx))
      (broadcastInDim S256x32x16384 ![0, 1, 2] bcast_S1x1x16384_S256x32x16384_0_1_2 (broadcastInDim S1x1x16384 ![2] bcast_S16384_S1x1x16384_2 (iotaInDim S16384 32 0)))) (ix3 R k j)
      = IntOp.cmpi .eq (idx (ix2 R k)) (BitVec.ofNat 32 j.val) := by
  pointwise

theorem hard_of (b : IVec S256x16384 1) (kh : X) (R : Fin 256) (j : Fin 16384) :
    (addf (subf (uitofp .f32 b) kh) kh : X) (ix2 R j) = (((b (ix2 R j)).toNat : ℝ) : EReal) - kh (ix2 R j) + kh (ix2 R j) := by
  pointwise
  rfl

/-- THE HARD SELECTION, ROW BY ROW: one at the 32 first of the row, zero elsewhere. -/
theorem hard_row (kh : X) (R : Fin 256) (j : Fin 16384) :
    row (hard kh) R j = if Select.Chosen 32 (Select.rk (row kh R)) j then 1 - row kh R j + row kh R j else 0 - row kh R j + row kh R j := by
  unfold hard row
  rw [hard_of]
  have hb : ∀ b : BitVec 1, (((b.toNat : ℕ) : ℝ) : EReal) = if b = 1#1 then 1 else 0 := by
    intro b
    have : b = 0#1 ∨ b = 1#1 := by revert b; decide
    rcases this with rfl | rfl
    · rw [if_neg (by decide)]; simp
    · rw [if_pos rfl]; simp
  have hmem : ∀ idx : IVec S256x32 32, Host.reduce IntOp.ori (cmpi .eq (broadcastInDim S256x32x16384 ![0, 1, 2] bcast_S256x32x1_S256x32x16384_0_1_2 (broadcastInDim S256x32x1 ![0, 1] bcast_S256x32_S256x32x1_0_1 idx))
      (broadcastInDim S256x32x16384 ![0, 1, 2] bcast_S1x1x16384_S256x32x16384_0_1_2 (broadcastInDim S1x1x16384 ![2] bcast_S16384_S1x1x16384_2 (iotaInDim S16384 32 0))))
      (constantI S_ 1 0#1) reducesTo_S256x32x16384_S256x16384_d1 h_S_ (ix2 R j) = 1#1 ↔ ∃ k : Fin 32, idx (ix2 R k) = BitVec.ofNat 32 j.val := by
    intro idx
    rw [RowReduce.or_mid _ _ _ _ rfl]
    refine exists_congr fun k => ?_
    rw [hit_at, WordCmp.cmpi_eq_eq, WordCmp.ofBool_decide_eq_one_iff]
  have hch : (∃ k : Fin 32, (Host.topK S256x32 1 (FloatOps.cmpfTotal .gt) kh sliceFits_S256x16384_S256x32).2 (ix2 R k) = BitVec.ofNat 32 j.val)
      ↔ Select.Chosen 32 (Select.rk (row kh R)) j := by
    rw [← Select.chosen_iff_sorted]
    have hrk : (fun a b : Fin 16384 => decide (kh (ix2 R b) < kh (ix2 R a))) = fun a b => decide (Select.rk (row kh R) b < Select.rk (row kh R) a) :=
      funext fun a => funext fun b => decide_eq_decide.mpr (Select.rk_lt_rk (row kh R) b a).symm
    have hw : ∀ q : Fin 16384, BitVec.ofNat 32 q.val = BitVec.ofNat 32 j.val ↔ q = j := fun q => by
      have := q.isLt; have := j.isLt
      rw [WordCmp.ofNat_eq_ofNat_iff (by omega) (by omega)]
      exact Fin.ext_iff.symm
    constructor
    · rintro ⟨k, hk⟩
      have hlt : k.val < 16384 := lt_trans k.isLt (by norm_num)
      rw [RowReduce.topK_index kh sliceFits_S256x16384_S256x32 R k hlt, hw, hrk] at hk
      exact ⟨⟨k.val, hlt⟩, k.isLt, hk⟩
    · rintro ⟨k, hk, hj⟩
      refine ⟨⟨k.val, hk⟩, ?_⟩
      rw [RowReduce.topK_index kh sliceFits_S256x16384_S256x32 R ⟨k.val, hk⟩ k.isLt, hw, hrk]
      exact hj
  rw [hb]
  by_cases hc : Select.Chosen 32 (Select.rk (row kh R)) j
  · rw [if_pos ((hmem _).mpr (hch.mpr hc))]; exact (if_pos hc).symm
  · rw [if_neg fun h => hc (hch.mp ((hmem _).mp h))]; exact (if_neg hc).symm

end Cert.ReferenceIdeal.Hand

end
-- ==== Proof.Entry.lean ====
/- Hand-written, untrusted: THE ARRAYS BEFORE THE MAIN PART: what the kernel's region and the reference's loop start from. -/
module

public import proofs.«01_k».proof.Proof.Noise
public import proofs.«01_k».proof.Proof.Scores
public import proofs.«01_k».proof.Proof.ReferenceIdealRows
public import Idealize.ShloMosaic.Lib.Pipeline.Frame

@[expose] public section

set_option maxRecDepth 16384
set_option maxHeartbeats 4000000

noncomputable section

namespace Cert.Entry

open Idealize.ShloMosaic Idealize.ShloMosaic.TcCoe

section Kernel
open Cert.KernelIdeal Cert.KernelIdeal.Gen

/-- The kernel's scores are the argument's rows. -/
theorem kernel_rows (V : Valuation τ sig (Elt Ideal)) :
    (StableHlo.after hostOps0_1 (StableHlo.after hostOps0 V) (Proc.devRef .tc main_v1) : FVec Ideal S256x16384 .f32)
      = Scores.rows (V (Proc.devRef .tc main_arg0)) := by
  unfold Scores.rows
  sl_kernel_rfl

variable (m : (ℓ : Loc nD τ sig) → Buf (Elt Ideal) ℓ)

theorem kernel_V0 (c : Dev nD) : V0 m c = StableHlo.after hostOps0_1 (StableHlo.after hostOps0 (fun b => m (c, b))) := by
  show StableHlo.after (hostOps0 ++ (hostOps0_1 ++ [])) _ = _
  rw [List.append_nil, StableHlo.after_append]

end Kernel

section Reference
open Cert.ReferenceIdeal Cert.ReferenceIdeal.Gen Cert.ReferenceIdeal.Hand

/-- The reference's scores are the argument's rows. -/
theorem reference_rows (V : Valuation τ sig (Elt Ideal)) :
    (StableHlo.after hostOps0_1 (StableHlo.after hostOps0 V) (Proc.devRef .tc main_v1) : FVec Ideal S256x16384 .f32)
      = Scores.rows (V (Proc.devRef .tc main_arg0)) := by
  unfold Scores.rows
  sl_kernel_rfl

/-- The loop's logits start as scores plus noise … -/
theorem start_s (V : Valuation τ sig (Elt Ideal)) :
    (StableHlo.after hostOps0_2 V (Proc.devRef .tc main_v13_2) : FVec Ideal S256x16384 .f32)
      = (addf (F := Ideal) (φ := .f32) (s := S256x16384) (V (Proc.devRef .tc main_v1) : FVec Ideal S256x16384 .f32) (V (Proc.devRef .tc main_v9) : FVec Ideal S256x16384 .f32) : FVec Ideal S256x16384 .f32) := by
  sl_kernel_rfl

/-- … and its sums as zeros … -/
theorem start_k (V : Valuation τ sig (Elt Ideal)) :
    (StableHlo.after hostOps0_2 V (Proc.devRef .tc main_v13_3) : FVec Ideal S256x16384 .f32)
      = (broadcastInDim S256x16384 ![] bcast_S_S256x16384 (constant S_ .f32 0x00000000#32) : FVec Ideal S256x16384 .f32) := by
  sl_kernel_rfl

/-- … as its softmax does. -/
theorem start_o (V : Valuation τ sig (Elt Ideal)) :
    (StableHlo.after hostOps0_2 V (Proc.devRef .tc main_v13_4) : FVec Ideal S256x16384 .f32)
      = (broadcastInDim S256x16384 ![] bcast_S_S256x16384 (constant S_ .f32 0x00000000#32) : FVec Ideal S256x16384 .f32) := by
  sl_kernel_rfl

/-- A row of the loop starts with its scores plus its noise as logits, and zeros. -/
theorem start_row (V : Valuation τ sig (Elt Ideal)) (s g : FVec Ideal S256x16384 .f32) (hs : V (Proc.devRef .tc main_v1) = s)
    (hg : V (Proc.devRef .tc main_v9) = g) (R : Fin 256) :
    rowSt (StableHlo.after hostOps0_2 V) R = Row.chain (fun j => s (ix2 R j) + g (ix2 R j)) 0 := by
  subst hs hg
  have zero_at : ∀ j, (broadcastInDim S256x16384 ![] bcast_S_S256x16384 (constant S_ .f32 0x00000000#32) : FVec Ideal S256x16384 .f32) (ix2 R j) = 0 :=
    fun j => Row.ofBits_zero
  unfold rowSt vs vo vk
  rw [start_s, start_k, start_o]
  have hz : row (broadcastInDim S256x16384 ![] bcast_S_S256x16384 (constant S_ .f32 0x00000000#32) : FVec Ideal S256x16384 .f32) R = fun _ => 0 :=
    funext zero_at
  rw [hz]
  rfl

end Reference

end Cert.Entry

end
-- ==== Proof.KernelIdealPay.lean ====
/- Hand-written, untrusted: THE SOFT PHASE'S PAYLOADS AT AN INDEX, on extended reals. -/
module

public import proofs.«01_k».proof.Proof.KernelIdealState
public import proofs.«01_k».proof.Proof.RowMath
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- A row's number, of a column vector. -/
abbrev at0 (v : Col Ideal) (r : Fin 64) : EReal := v (ix2 r 0)

theorem pay11_at (x g : X Ideal) (r : Fin 64) (j : Fin 16384) : k0_pay11 x g (ix2 r j) = x (ix2 r j) + g (ix2 r j) := by
  pointwise [k0_pay11]

theorem pay12_at (r : Fin 64) (j : Fin 16384) : k0_pay12 (F := Ideal) (ix2 r j) = 0 := by
  pointwise [k0_pay12]

theorem pay13_at (r : Fin 64) (j : Fin 16384) : k0_pay13 (F := Ideal) (ix2 r j) = 0 := by
  pointwise [k0_pay13]

theorem pay14_at (r : Fin 64) : k0_pay14 (F := Ideal) (ix2 r 0) = 1 := by
  pointwise [k0_pay14]

theorem pay15_at (r : Fin 64) : k0_pay15 (F := Ideal) (ix2 r 0) = ⊥ := by
  pointwise [k0_pay15]
  exact Row.ofBits_neg_inf

theorem pay17_at (sum : Col Ideal) (e kh : FVec Ideal S64x4096 .f32) (r : Fin 64) (j : Fin 4096) :
    k0_pay17 sum e kh (ix2 r j) = kh (ix2 r j) + Ideal.div (e (ix2 r j)) (at0 sum r) := by
  pointwise [k0_pay17, k0_pay16]

theorem pay18_at (sum : Col Ideal) (e s : FVec Ideal S64x4096 .f32) (r : Fin 64) (j : Fin 4096) :
    k0_pay18 sum e s (ix2 r j) = s (ix2 r j) + Ideal.log (max (1 - Ideal.div (e (ix2 r j)) (at0 sum r)) Row.eps) := by
  pointwise [k0_pay18, k0_pay16]
  rfl

theorem pay19_at (sum : Col Ideal) (e s : FVec Ideal S64x4096 .f32) (r : Fin 64) (j : Fin 4096) :
    k0_pay19 sum e s (ix2 r j) = k0_pay18 sum e s (ix2 r j) := by
  pointwise [k0_pay19]

theorem pay20_at (sum m : Col Ideal) (e s : FVec Ideal S64x4096 .f32) (r : Fin 64) :
    k0_pay20 sum m e s (ix2 r 0)
      = max (at0 m r) (Finset.univ.fold max ⊥ (fun j : Fin 4096 => Ideal.div (k0_pay18 sum e s (ix2 r j)) Row.tau)) := by
  pointwise [k0_pay20]
  rw [Row.ofBits_neg_inf]; rfl

theorem pay21_at (m : Col Ideal) (s : FVec Ideal S64x4096 .f32) (r : Fin 64) (j : Fin 4096) :
    k0_pay21 m s (ix2 r j) = Ideal.exp (Ideal.div (s (ix2 r j)) Row.tau - at0 m r) := by
  pointwise [k0_pay21]
  rfl

theorem pay22_at (e : X Ideal) (r : Fin 64) : k0_pay22 e (ix2 r 0) = ∑ j : Fin 16384, e (ix2 r j) := by
  pointwise [k0_pay22]

theorem pay23_at (sum : Col Ideal) (kh e : FVec Ideal S64x4096 .f32) (r : Fin 64) (j : Fin 4096) :
    k0_pay23 sum kh e (ix2 r j) = kh (ix2 r j) + Ideal.div (e (ix2 r j)) (at0 sum r) := by
  pointwise [k0_pay23]

end Cert.KernelIdeal.Hand

end
-- ==== Proof.KernelIdealRows.lean ====
/- Hand-written, untrusted: THE KERNEL'S SOFT PHASE, ROW BY ROW: the running sum of a block's row is the row's chain of
   Proof/RowMath.lean. The kernel goes over a row by chunks and keeps exponentials and row sum where the chain keeps their quotient. -/
module

public import proofs.«01_k».proof.Proof.KernelIdealPay

@[expose] public section

set_option maxRecDepth 16384

noncomputable section

namespace Cert.KernelIdeal.Hand

open Cert.KernelIdeal Cert.KernelIdeal.Gen
open Idealize.ShloMosaic Idealize.ShloMosaic.TcCoe

/-! ## Chunks -/

/-- The column of chunk `k` at place `c`. -/
def colOf (k : Fin 4) (c : Fin 4096) : Fin 16384 := ⟨4096 * k.val + c.val, by omega⟩

theorem colOf_split (j : Fin 16384) : ∃ k c, j = colOf k c :=
  ⟨⟨j.val / 4096, by omega⟩, ⟨j.val % 4096, by omega⟩, Fin.ext (by show j.val = 4096 * (j.val / 4096) + j.val % 4096; omega)⟩

theorem win_at (x : X Ideal) (k : Fin 4) (r : Fin 64) (c : Fin 4096) : win x k.val (ix2 r c) = x (ix2 r (colOf k c)) := by
  unfold win VecWindow.window
  refine congrArg x (funext fun a => Fin.ext ?_)
  have hk : k.val % 4 = k.val := Nat.mod_eq_of_lt k.isLt
  fin_cases a
  · show 0 + 1 * r.val = r.val; omega
  · show 4096 * (k.val % 4) + 1 * c.val = 4096 * k.val + c.val; omega

theorem put_at_same (x : X Ideal) (k : Fin 4) (w : FVec Ideal S64x4096 .f32) (r : Fin 64) (c : Fin 4096) :
    put x k.val w (ix2 r (colOf k c)) = w (ix2 r c) := by
  rw [← win_at (put x k.val w) k r c]
  exact congrFun (VecWindow.window_put_same x (off k.val) S64x4096.size (off_inb k.val) w) (ix2 r c)

theorem put_at_other (x : X Ideal) (k : ℕ) (l : Fin 4) (hk : k < 4) (h : k ≠ l.val) (w : FVec Ideal S64x4096 .f32) (r : Fin 64) (c : Fin 4096) :
    put x k w (ix2 r (colOf l c)) = x (ix2 r (colOf l c)) := by
  unfold put VecWindow.put
  refine dif_neg fun hall => h ?_
  have h2 := hall 1
  have e1 : off k 1 = 4096 * (k % 4) := rfl
  have e2 : ((ix2 r (colOf l c) : S64x16384.Idx) 1).val = 4096 * l.val + c.val := rfl
  have e3 : S64x4096.size 1 = 4096 := rfl
  rw [e1, e2, e3] at h2
  have := c.isLt
  omega

/-! ## One outer trip -/

/-- A block's row. -/
def row (x : X Ideal) (r : Fin 64) (j : Fin 16384) : EReal := x (ix2 r j)

/-- The softmax that the stored exponentials and row sums stand for. -/
def oh (p : St Ideal) (r : Fin 64) (j : Fin 16384) : EReal := Ideal.div (row p.e r j) (at0 p.sum r)

theorem lo2_s (p : St Ideal) (m : Col Ideal) (n : ℕ) (hn : n ≤ 4) (l : Fin 4) (r : Fin 64) (c : Fin 4096) :
    (lo2 p.sum p.e p.s p.kh m n).1 (ix2 r (colOf l c))
      = if l.val < n then Row.next (row p.s r) (oh p r) (colOf l c) else p.s (ix2 r (colOf l c)) := by
  induction n with
  | zero => rfl
  | succ n ih =>
    have ih := ih (by omega)
    show put (lo2 p.sum p.e p.s p.kh m n).1 n _ (ix2 r (colOf l c)) = _
    by_cases h : n = l.val
    · subst h
      rw [put_at_same, if_pos (by omega), pay19_at, pay18_at, win_at, win_at, ih, if_neg (by omega)]
      rfl
    · rw [put_at_other _ n l (by omega) h, ih]
      have : (l.val < n + 1) ↔ (l.val < n) := by omega
      simp only [this]

theorem lo2_kh (p : St Ideal) (m : Col Ideal) (n : ℕ) (hn : n ≤ 4) (l : Fin 4) (r : Fin 64) (c : Fin 4096) :
    (lo2 p.sum p.e p.s p.kh m n).2.1 (ix2 r (colOf l c))
      = if l.val < n then p.kh (ix2 r (colOf l c)) + oh p r (colOf l c) else p.kh (ix2 r (colOf l c)) := by
  induction n with
  | zero => rfl
  | succ n ih =>
    have ih := ih (by omega)
    show put (lo2 p.sum p.e p.s p.kh m n).2.1 n _ (ix2 r (colOf l c)) = _
    by_cases h : n = l.val
    · subst h
      rw [put_at_same, if_pos (by omega), pay17_at, win_at, win_at, ih, if_neg (by omega)]
      rfl
    · rw [put_at_other _ n l (by omega) h, ih]
      have : (l.val < n + 1) ↔ (l.val < n) := by omega
      simp only [this]

/-- The running maximum before chunk `n` is the least bound of the chunks before it. -/
theorem lo2_m (p : St Ideal) (n : ℕ) (hn : n ≤ 4) (r : Fin 64) (b : EReal) :
    at0 (lo2 p.sum p.e p.s p.kh (k0_pay15 (F := Ideal)) n).2.2 r ≤ b
      ↔ ∀ (l : Fin 4) (c : Fin 4096), l.val < n → Ideal.div (Row.next (row p.s r) (oh p r) (colOf l c)) Row.tau ≤ b := by
  induction n with
  | zero =>
    show k0_pay15 (F := Ideal) (ix2 r 0) ≤ b ↔ _
    rw [pay15_at]
    exact ⟨fun _ l c h => absurd h (Nat.not_lt_zero _), fun _ => bot_le⟩
  | succ n ih =>
    have ih := ih (by omega)
    show k0_pay20 (F := Ideal) _ _ _ _ (ix2 r 0) ≤ b ↔ _
    rw [pay20_at, max_le_iff, ih, Finset.fold_max_le]
    have key : ∀ c : Fin 4096, k0_pay18 p.sum (win p.e n) (win (lo2 p.sum p.e p.s p.kh (k0_pay15 (F := Ideal)) n).1 n) (ix2 r c)
        = Row.next (row p.s r) (oh p r) (colOf ⟨n, by omega⟩ c) := fun c => by
      rw [pay18_at]
      have h1 := win_at p.e ⟨n, by omega⟩ r c
      have h2 := win_at (lo2 p.sum p.e p.s p.kh (k0_pay15 (F := Ideal)) n).1 ⟨n, by omega⟩ r c
      simp only at h1 h2
      rw [h1, h2, lo2_s p _ n (by omega), if_neg (by simp)]
      rfl
    constructor
    · rintro ⟨h1, -, h2⟩ l c hl
      by_cases h : l.val = n
      · have h3 := h2 c (Finset.mem_univ c)
        rw [key c] at h3
        have e : l = ⟨n, by omega⟩ := Fin.ext h
        rw [e]; exact h3
      · exact h1 l c (by omega)
    · intro h
      refine ⟨fun l c hl => h l c (by omega), bot_le, fun c _ => ?_⟩
      rw [key c]; exact h _ c (by simp)

theorem lo3_at (m : Col Ideal) (s e : X Ideal) (n : ℕ) (hn : n ≤ 4) (l : Fin 4) (r : Fin 64) (c : Fin 4096) :
    lo3 m s e n (ix2 r (colOf l c))
      = if l.val < n then Ideal.exp (Ideal.div (s (ix2 r (colOf l c))) Row.tau - at0 m r) else e (ix2 r (colOf l c)) := by
  induction n with
  | zero => rfl
  | succ n ih =>
    have ih := ih (by omega)
    show put (lo3 m s e n) n _ (ix2 r (colOf l c)) = _
    by_cases h : n = l.val
    · subst h
      rw [put_at_same, if_pos (by omega), pay21_at, win_at]
    · rw [put_at_other _ n l (by omega) h, ih]
      have : (l.val < n + 1) ↔ (l.val < n) := by omega
      simp only [this]

theorem lo4_at (sum : Col Ideal) (e kh : X Ideal) (n : ℕ) (hn : n ≤ 4) (l : Fin 4) (r : Fin 64) (c : Fin 4096) :
    lo4 sum e kh n (ix2 r (colOf l c))
      = if l.val < n then kh (ix2 r (colOf l c)) + Ideal.div (e (ix2 r (colOf l c))) (at0 sum r) else kh (ix2 r (colOf l c)) := by
  induction n with
  | zero => rfl
  | succ n ih =>
    have ih := ih (by omega)
    show put (lo4 sum e kh n) n _ (ix2 r (colOf l c)) = _
    by_cases h : n = l.val
    · subst h
      rw [put_at_same, if_pos (by omega), pay23_at, win_at, win_at, ih, if_neg (by omega)]
    · rw [put_at_other _ n l (by omega) h, ih]
      have : (l.val < n + 1) ↔ (l.val < n) := by omega
      simp only [this]

theorem trip_s (p : St Ideal) (r : Fin 64) : row (trip p).s r = Row.next (row p.s r) (oh p r) := by
  funext j
  obtain ⟨l, c, rfl⟩ := colOf_split j
  exact (lo2_s p _ 4 (le_refl 4) l r c).trans (if_pos l.isLt)

theorem trip_kh (p : St Ideal) (r : Fin 64) (j : Fin 16384) : row (trip p).kh r j = row p.kh r j + oh p r j := by
  obtain ⟨l, c, rfl⟩ := colOf_split j
  exact (lo2_kh p _ 4 (le_refl 4) l r c).trans (if_pos l.isLt)

theorem trip_m (p : St Ideal) (r : Fin 64) :
    at0 (lo2 p.sum p.e p.s p.kh (k0_pay15 (F := Ideal)) 4).2.2 r = Row.top (row (trip p).s r) := by
  rw [trip_s]
  refine eq_of_forall_ge_iff fun b => ?_
  rw [lo2_m p 4 (le_refl 4) r b]
  unfold Row.top
  rw [Finset.fold_max_le]
  constructor
  · intro h
    refine ⟨bot_le, fun j _ => ?_⟩
    obtain ⟨l, c, rfl⟩ := colOf_split j
    exact h l c l.isLt
  · intro h l c _
    exact h.2 _ (Finset.mem_univ _)

theorem trip_e (p : St Ideal) (r : Fin 64) : row (trip p).e r = Row.ex (row (trip p).s r) := by
  funext j
  obtain ⟨l, c, rfl⟩ := colOf_split j
  refine (lo3_at _ _ _ 4 (le_refl 4) l r c).trans ((if_pos l.isLt).trans ?_)
  rw [trip_m]; rfl

theorem trip_oh (p : St Ideal) (r : Fin 64) : oh (trip p) r = Row.soft (row (trip p).s r) := by
  funext j
  have h : at0 (trip p).sum r = ∑ j, row (trip p).e r j := pay22_at (trip p).e r
  unfold oh Row.soft
  rw [h, trip_e]

/-! ## The outer loop -/

/-- The scratch buffers hold a chain's state in row `r`: the stored running sum lags by the softmax not yet added. -/
structure Holds (p : St Ideal) (r : Fin 64) (q : Row.St 16384) : Prop where
  s : row p.s r = q.s
  oh : oh p r = q.oh
  kh : ∀ j, row p.kh r j + Hand.oh p r j = q.kh j

theorem holds_trip (p : St Ideal) (r : Fin 64) (q : Row.St 16384) (h : Holds p r q) : Holds (trip p) r (Row.step q) := by
  have hs : row (trip p).s r = (Row.step q).s := by rw [trip_s, h.s, h.oh, Row.step_s]
  have ho : Hand.oh (trip p) r = (Row.step q).oh := by rw [trip_oh, hs, Row.step_oh]
  exact ⟨hs, ho, fun j => by rw [trip_kh, h.kh j, ho, Row.step_kh]⟩

theorem holds_lo1 (s e kh : X Ideal) (sum : Col Ideal) (r : Fin 64) (f : Fin 16384 → EReal)
    (h : Holds ⟨s, e, kh, sum⟩ r (Row.chain f 0)) (k : ℕ) : Holds (lo1 s e kh sum k) r (Row.chain f k) := by
  induction k with
  | zero => exact h
  | succ k ih => exact holds_trip _ r _ ih

theorem holds_start (x g : X Ideal) (r : Fin 64) :
    Holds ⟨k0_pay11 x g, k0_pay12 (F := Ideal), k0_pay13 (F := Ideal), k0_pay14 (F := Ideal)⟩ r
      (Row.chain (fun j => row x r j + row g r j) 0) := by
  have ho : ∀ j, Hand.oh ⟨k0_pay11 x g, k0_pay12 (F := Ideal), k0_pay13 (F := Ideal), k0_pay14 (F := Ideal)⟩ r j = 0 := fun j => by
    unfold Hand.oh row at0
    simp only [pay12_at, pay14_at]
    simp [Ideal.div]
  refine ⟨funext fun j => pay11_at x g r j, funext ho, fun j => ?_⟩
  rw [ho j]
  unfold row
  simp only [pay13_at, add_zero]
  rfl

/-- THE SOFT PHASE: the running sum of a block's row is the row's chain after 32 trips. -/
theorem khot_row (x g : X Ideal) (r : Fin 64) : row (khot x g) r = (Row.chain (fun j => row x r j + row g r j) 32).kh := by
  have hh := holds_lo1 _ _ _ _ r _ (holds_start x g r) 32
  unfold khot
  generalize lo1 (k0_pay11 x g) (k0_pay12 (F := Ideal)) (k0_pay13 (F := Ideal)) (k0_pay14 (F := Ideal)) 32 = p at hh
  generalize Row.chain (fun j => row x r j + row g r j) 32 = q at hh
  funext j
  rw [← hh.kh j]
  obtain ⟨l, c, rfl⟩ := colOf_split j
  exact (lo4_at p.sum p.e p.kh 4 (le_refl 4) l r c).trans (if_pos l.isLt)

end Cert.KernelIdeal.Hand

end
-- ==== Proof.KernelIdealPick.lean ====
/- Hand-written, untrusted: THE KERNEL'S SELECTION, ROW BY ROW: the elements that a block's row keeps are the 32 that come first
   in the order "greater value first, then lower index". -/
module

public import proofs.«01_k».proof.Proof.KernelIdealRows
public import proofs.«01_k».proof.Proof.Select
public import Idealize.ShloMosaic.Lib.IndicatorCount
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe

/-! ## The payloads at an index -/

theorem pay25_at (v : X Ideal) (a : IVec S64x16384 32) (w : Col Ideal) (r : Fin 64) (j : Fin 16384) :
    k0_pay25 (F := Ideal) v a w (ix2 r j)
      = IntOp.addi (a (ix2 r j)) ((BitVec.ofBool (decide (w (ix2 r 0) < v (ix2 r j)))).setWidth 32) := by
  pointwise [k0_pay25]

/-- The count of the ones among a row's one-bit words, as a word. -/
def cnt (p : Fin 16384 → BitVec 1) : BitVec 32 := BitVec.ofNat 32 (Finset.univ.filter (fun j => p j = 1#1)).card

theorem pay1_at (v : IVec S64x16384 32) (k : Fin k0_t6_loop.trips) (a : IVec S64x1 32) (r : Fin 64) (c : BitVec 32)
    (hc : IntOp.ori (a (ix2 r 0)) (Scalar.shli (1#32) (Scalar.subi (30#32) (Scf.iv 0#32 1#32 k.val))) = c) :
    k0_pay1 v 0#32 k a (ix2 r 0)
      = Scalar.select (IntOp.cmpi .sge (cnt fun j => IntOp.cmpi .sge (v (ix2 r j)) c) 32#32) c (a (ix2 r 0)) := by
  pointwise [k0_pay1]
  rw [IndicatorCount.fold_addi_setWidth_eq_card, hc]
  rfl

theorem pay2_at (v : IVec S64x16384 32) (t : IVec S64x1 32) (r : Fin 64) (j : Fin 16384) :
    k0_pay2 v t (ix2 r j) = IntOp.cmpi .sge (v (ix2 r j)) (t (ix2 r 0)) := by
  pointwise [k0_pay2]

theorem pay6_at (v : IVec S64x16384 32) (t : IVec S64x1 32) (r : Fin 64) (j : Fin 16384) :
    k0_pay6 v t (ix2 r j) = IntOp.cmpi .sgt (v (ix2 r j)) (t (ix2 r 0)) := by
  pointwise [k0_pay6]

theorem pay7_at (v : IVec S64x16384 32) (t : IVec S64x1 32) (r : Fin 64) (j : Fin 16384) :
    k0_pay7 v t (ix2 r j) = IntOp.andi (k0_pay2 v t (ix2 r j)) (IntOp.xori (k0_pay6 v t (ix2 r j)) 1#1) := by
  pointwise [k0_pay7]

theorem pay4_at (v : IVec S64x16384 32) (t : IVec S64x1 32) :
    k0_pay4 (F := Ideal) v t = Finset.fold min (Ideal.ofBits FTy.f32 2139095040#32)
      (fun x : Fin 64 × Fin 1 => Scalar.select (IntOp.cmpi .eq (cnt fun j => k0_pay2 v t (ix2 x.1 j)) 32#32) 1 0) Finset.univ := by
  pointwise [k0_pay4]
  refine congrArg (fun f => Finset.fold min (Ideal.ofBits FTy.f32 2139095040#32) f Finset.univ) (funext fun x => ?_)
  rw [IndicatorCount.fold_addi_setWidth_eq_card]
  rfl

theorem pay9_at (v : IVec S64x16384 32) (k : Fin k0_t7_loop.trips) (t a : IVec S64x1 32) (r : Fin 64) (c : BitVec 32)
    (hc : IntOp.addi (a (ix2 r 0)) (Scalar.shli (1#32) (Scalar.subi (13#32) (Scf.iv 0#32 1#32 k.val))) = c) :
    k0_pay9 v t k a (ix2 r 0)
      = Scalar.select (IntOp.cmpi .sle
          (cnt fun j => IntOp.andi (k0_pay7 v t (ix2 r j)) (IntOp.cmpi .sle (BitVec.ofNat 32 j.val) c))
          (IntOp.subi (IntOp.subi 32#32 (cnt fun j => k0_pay6 v t (ix2 r j))) 1#32)) c (a (ix2 r 0)) := by
  pointwise [k0_pay9]
  rw [IndicatorCount.fold_addi_setWidth_eq_card, IndicatorCount.fold_addi_setWidth_eq_card, hc]
  rfl

theorem pay10_at (kh : X Ideal) (v : IVec S64x16384 32) (t a : IVec S64x1 32) (r : Fin 64) (j : Fin 16384) :
    k0_pay10 (F := Ideal) kh v t a (ix2 r j)
      = Scalar.select (IntOp.ori (k0_pay6 v t (ix2 r j)) (IntOp.andi (k0_pay7 v t (ix2 r j))
          (IntOp.cmpi .sle (BitVec.ofNat 32 j.val) (IntOp.addi (a (ix2 r 0)) 1#32)))) (1 - kh (ix2 r j) + kh (ix2 r j)) 0 := by
  pointwise [k0_pay10, k0_pay3]

theorem pay5_at (kh : X Ideal) (v : IVec S64x16384 32) (t : IVec S64x1 32) (r : Fin 64) (j : Fin 16384) :
    k0_pay5 (F := Ideal) kh v t (ix2 r j) = Scalar.select (k0_pay2 v t (ix2 r j)) (1 - kh (ix2 r j) + kh (ix2 r j)) 0 := by
  pointwise [k0_pay5, k0_pay3]

theorem select_ofBool {α : Type} (p : Prop) [Decidable p] (x y : α) :
    Scalar.select (BitVec.ofBool (decide p)) x y = if p then x else y := by
  by_cases h : p <;> simp [Scalar.select, h]

/-! ## Loops without effects -/

theorem foldl_finRange {σ : Type} (n : ℕ) (g : Fin n → σ → σ) (a : σ) (M : ℕ → σ → Prop) (h0 : M 0 a)
    (hs : ∀ (k : Fin n) acc, M k.val acc → M (k.val + 1) (g k acc)) :
    M n ((List.finRange n).foldl (fun acc k => g k acc) a) := by
  induction n with
  | zero => exact h0
  | succ n ih =>
    rw [List.finRange_succ_last, List.foldl_append, List.foldl_map]
    exact hs (Fin.last n) _ (ih (fun k => g k.castSucc) fun k acc h => hs k.castSucc acc h)

/-- What every trip of a loop without effects keeps, the loop keeps. -/
theorem fold_keeps {σ : Type} {n : ℕ} (g : Fin n → σ → σ) (a : σ) (M : ℕ → σ → Prop) (h0 : M 0 a)
    (hs : ∀ (k : Fin n) acc, M k.val acc → M (k.val + 1) (g k acc)) : M n (Scf.fold g a) := by
  rw [Scf.fold_eq]; exact foldl_finRange n g a M h0 hs

/-! ## The rank -/

theorem col_at (x : X Ideal) (j : Fin 16384) (r : Fin 64) : col x j.val (ix2 r 0) = x (ix2 r j) := by
  unfold col VecWindow.window
  refine congrArg x (funext fun a => Fin.ext ?_)
  have hj : j.val % 16384 = j.val := Nat.mod_eq_of_lt j.isLt
  fin_cases a
  · show 0 + 1 * r.val = r.val; omega
  · show j.val % 16384 + 1 * 0 = j.val; omega

theorem lo5_at (kh : X Ideal) (r : Fin 64) (j : Fin 16384) (n : ℕ) (hn : n ≤ 16384) :
    lo5 kh kh k0_pay24 n (ix2 r j)
      = BitVec.ofNat 32 (Finset.univ.filter (fun i : Fin 16384 => i.val < n ∧ row kh r i < row kh r j)).card := by
  induction n with
  | zero =>
    rw [Select.card_below_zero (fun i => row kh r i < row kh r j)]; rfl
  | succ n ih =>
    have hc := Select.card_below_succ (fun i => row kh r i < row kh r j) ⟨n, by omega⟩
    have hcol := col_at kh ⟨n, by omega⟩ r
    simp only at hc hcol
    rw [hc]
    show k0_pay25 (F := Ideal) kh (lo5 kh kh k0_pay24 n) (col kh n) (ix2 r j) = _
    rw [pay25_at, ih (by omega), hcol, BitVec.ofNat_add]
    by_cases h : row kh r ⟨n, by omega⟩ < row kh r j
    · rw [if_pos h]
      have h' : kh (ix2 r ⟨n, by omega⟩) < kh (ix2 r j) := h
      rw [decide_eq_true h']; rfl
    · rw [if_neg h]
      have h' : ¬ kh (ix2 r ⟨n, by omega⟩) < kh (ix2 r j) := h
      rw [decide_eq_false h']; rfl

theorem rank_at (kh : X Ideal) (r : Fin 64) (j : Fin 16384) : rank kh (ix2 r j) = BitVec.ofNat 32 (Select.rk (row kh r) j) := by
  unfold rank Select.rk
  rw [lo5_at kh r j 16384 (le_refl _)]
  exact congrArg (BitVec.ofNat 32) (Select.card_below_all fun i => row kh r i < row kh r j)

/-! ## The threshold -/

theorem trips6 : k0_t6_loop.trips = 31 := by decide
theorem trips7 : k0_t7_loop.trips = 14 := by decide
theorem shl6 : ∀ k : Fin 31, Scalar.shli (1#32) (Scalar.subi (30#32) (Scf.iv 0#32 1#32 k.val)) = BitVec.ofNat 32 (2 ^ (30 - k.val)) := by
  decide
theorem shl7 : ∀ k : Fin 14, Scalar.shli (1#32) (Scalar.subi (13#32) (Scf.iv 0#32 1#32 k.val)) = BitVec.ofNat 32 (2 ^ (13 - k.val)) := by
  decide

theorem pay8_at (r : Fin 64) : IntOp.addi (k0_pay8 (ix2 r 0)) 1#32 = BitVec.ofNat 32 0 := by
  pointwise [k0_pay8]
  decide

/-- One step of the cut's search, on words: the candidate is taken when the count stays below the need. -/
theorem cut_step (g c A q : ℕ) (a : BitVec 32) (hg : g < 32) (hq : 1 ≤ q) (ha : IntOp.addi a 1#32 = BitVec.ofNat 32 A) :
    IntOp.addi (Scalar.select (BitVec.ofBool (decide (c ≤ 31 - g))) (BitVec.ofNat 32 (A + (q - 1))) a) 1#32
      = BitVec.ofNat 32 (if c < 32 - g then A + q else A) := by
  rw [select_ofBool]
  by_cases hP : c < 32 - g
  · rw [if_pos hP, if_pos (by omega : c ≤ 31 - g)]
    show BitVec.ofNat 32 (A + (q - 1)) + BitVec.ofNat 32 1 = _
    rw [← BitVec.ofNat_add, Nat.add_assoc, Nat.sub_add_cancel hq]
  · rw [if_neg hP, if_neg (by omega : ¬ c ≤ 31 - g), ha]

theorem ogt_zero (x : Ideal .f32) : Scalar.cmpf .ogt x (Scalar.ofBits .f32 0x00000000#32) = BitVec.ofBool (decide (0 < x)) := by
  show BitVec.ofBool (decide (Ideal.ofBits .f32 0x00000000#32 < x)) = _
  rw [Row.ofBits_zero]

theorem sub_need : ∀ g : Fin 32, IntOp.subi (IntOp.subi 32#32 (BitVec.ofNat 32 g.val)) 1#32 = BitVec.ofNat 32 (31 - g.val) := by
  decide

section row
variable (v : IVec S64x16384 32) (r : Fin 64) (ρ : Fin 16384 → ℕ)
  (hv : ∀ j, v (ix2 r j) = BitVec.ofNat 32 (ρ j)) (hρ : ∀ j, ρ j < 16384)

include hv hρ

theorem cnt_sge (c : ℕ) (hc : c < 2 ^ 31) :
    (cnt fun j => IntOp.cmpi .sge (v (ix2 r j)) (BitVec.ofNat 32 c)) = BitVec.ofNat 32 (Select.atLeast ρ c) := by
  unfold cnt Select.atLeast
  refine congrArg (fun s : Finset (Fin 16384) => BitVec.ofNat 32 s.card) (Finset.filter_congr fun j _ => ?_)
  have := hρ j
  beta_reduce
  rw [hv j, WordCmp.cmpi_sge_ofNat (by omega) (by omega), WordCmp.ofBool_decide_eq_one_iff]

theorem cnt_sgt (c : ℕ) (hc : c < 2 ^ 31) :
    (cnt fun j => IntOp.cmpi .sgt (v (ix2 r j)) (BitVec.ofNat 32 c)) = BitVec.ofNat 32 (Select.atLeast ρ (c + 1)) := by
  unfold cnt Select.atLeast
  refine congrArg (fun s : Finset (Fin 16384) => BitVec.ofNat 32 s.card) (Finset.filter_congr fun j _ => ?_)
  have := hρ j
  beta_reduce
  rw [hv j, WordCmp.cmpi_sgt_ofNat (by omega) (by omega), WordCmp.ofBool_decide_eq_one_iff]
  exact Nat.lt_iff_add_one_le

/-- The threshold that the bit search finds: the last at which at least 32 of the row's ranks lie at or above it. -/
theorem thr_at : ∃ T : ℕ, thr v (ix2 r 0) = BitVec.ofNat 32 T ∧ T < 16384 ∧ 32 ≤ Select.atLeast ρ T ∧ Select.atLeast ρ (T + 1) < 32 := by
  have h0 : 32 ≤ Select.atLeast ρ 0 := by rw [Select.atLeast_zero]; norm_num
  have hB : ¬ 32 ≤ Select.atLeast ρ (2 ^ 31) := by
    rw [Select.atLeast_eq_zero ρ _ fun j => lt_of_lt_of_le (hρ j) (by norm_num)]; norm_num
  have hlt : ∀ t, 32 ≤ Select.atLeast ρ t → t < 16384 := fun t h =>
    Select.lt_of_atLeast ρ t 16384 hρ (by omega)
  have hinv := Select.srch_inv (fun t => 32 ≤ Select.atLeast ρ t) 31 h0 hB
  obtain ⟨e1, e2⟩ := Select.srch_end (fun t => 32 ≤ Select.atLeast ρ t) 31 h0 hB
  refine ⟨Select.srch (fun t => 32 ≤ Select.atLeast ρ t) 31 31, ?_, hlt _ e1, e1, not_le.mp e2⟩
  have key := fold_keeps (n := k0_t6_loop.trips) (fun k acc => k0_pay1 v 0#32 k acc) k0_pay26
    (fun k acc => acc (ix2 r 0) = BitVec.ofNat 32 (Select.srch (fun t => 32 ≤ Select.atLeast ρ t) 31 k)) rfl ?_
  · exact key.trans (congrArg (fun k => BitVec.ofNat 32 (Select.srch (fun t => 32 ≤ Select.atLeast ρ t) 31 k)) trips6)
  · intro k acc hacc
    have hk : k.val < 31 := lt_of_lt_of_eq k.isLt trips6
    obtain ⟨i1, -, i3⟩ := hinv k.val hk.le
    have hs : Select.srch (fun t => 32 ≤ Select.atLeast ρ t) 31 (k.val + 1)
        = Select.bit (fun t => 32 ≤ Select.atLeast ρ t) (Select.srch (fun t => 32 ≤ Select.atLeast ρ t) 31 k.val) (30 - k.val) := rfl
    rw [hs]
    generalize Select.srch (fun t => 32 ≤ Select.atLeast ρ t) 31 k.val = A at hacc i1 i3
    have hA := hlt A i1
    have hp : 2 ^ (30 - k.val) ≤ 2 ^ 30 := Nat.pow_le_pow_right (by norm_num) (by omega)
    have hc : IntOp.ori (acc (ix2 r 0)) (Scalar.shli (1#32) (Scalar.subi (30#32) (Scf.iv 0#32 1#32 k.val)))
        = BitVec.ofNat 32 (A + 2 ^ (30 - k.val)) := by
      rw [hacc, shl6 ⟨k.val, hk⟩, ← Select.or_two_pow A (30 - k.val) (by rwa [show 30 - k.val + 1 = 31 - k.val by omega])]
      show BitVec.ofNat 32 A ||| BitVec.ofNat 32 _ = _
      rw [BitVec.ofNat_or]
    rw [pay1_at v k acc r _ hc, cnt_sge v r ρ hv hρ _ (by omega)]
    have := Select.atLeast_le ρ (A + 2 ^ (30 - k.val))
    rw [WordCmp.cmpi_sge_ofNat (by omega) (by omega), select_ofBool, hacc]
    unfold Select.bit
    split <;> rfl

variable (t : IVec S64x1 32) (T : ℕ) (ht : t (ix2 r 0) = BitVec.ofNat 32 T) (hT : T < 16384)
include ht hT

theorem pay2_row (j : Fin 16384) : k0_pay2 v t (ix2 r j) = BitVec.ofBool (decide (T ≤ ρ j)) := by
  have := hρ j
  rw [pay2_at, hv, ht, WordCmp.cmpi_sge_ofNat (by omega) (by omega)]

theorem pay6_row (j : Fin 16384) : k0_pay6 v t (ix2 r j) = BitVec.ofBool (decide (T < ρ j)) := by
  have := hρ j
  rw [pay6_at, hv, ht, WordCmp.cmpi_sgt_ofNat (by omega) (by omega)]

theorem pay7_row (j : Fin 16384) : k0_pay7 v t (ix2 r j) = BitVec.ofBool (decide (ρ j = T)) := by
  rw [pay7_at, pay2_row v r ρ hv hρ t T ht hT, pay6_row v r ρ hv hρ t T ht hT]
  rcases lt_trichotomy (ρ j) T with h | h | h
  · rw [decide_eq_false (by omega), decide_eq_false (by omega), decide_eq_false (by omega)]; rfl
  · rw [decide_eq_true (by omega), decide_eq_false (by omega), decide_eq_true (by omega)]; rfl
  · rw [decide_eq_true (by omega), decide_eq_true (by omega), decide_eq_false (by omega)]; rfl

/-- The cut that the second search finds among the tied: the last index below which fewer tied positions lie than are needed. -/
theorem cut_at (h0 : 32 ≤ Select.atLeast ρ T) (h1 : Select.atLeast ρ (T + 1) < 32) :
    ∃ a : ℕ, IntOp.addi (cut v t (ix2 r 0)) 1#32 = BitVec.ofNat 32 a ∧ a < 16384 ∧
      Select.tiedBelow ρ T a < 32 - Select.atLeast ρ (T + 1) ∧ ¬ Select.tiedBelow ρ T (a + 1) < 32 - Select.atLeast ρ (T + 1) := by
  have hz : Select.tiedBelow ρ T 0 < 32 - Select.atLeast ρ (T + 1) := by rw [Select.tiedBelow_zero]; omega
  have hB : ∀ b, 16384 ≤ b → ¬ Select.tiedBelow ρ T b < 32 - Select.atLeast ρ (T + 1) := fun b hb => by
    have := Select.atLeast_eq ρ T b hb
    omega
  have hlt : ∀ a, Select.tiedBelow ρ T a < 32 - Select.atLeast ρ (T + 1) → a < 16384 := fun a h => by
    by_contra hle; exact hB a (not_lt.mp hle) h
  have hinv := Select.srch_inv (fun a => Select.tiedBelow ρ T a < 32 - Select.atLeast ρ (T + 1)) 14 hz (hB _ (by norm_num))
  obtain ⟨e1, e2⟩ := Select.srch_end (fun a => Select.tiedBelow ρ T a < 32 - Select.atLeast ρ (T + 1)) 14 hz (hB _ (by norm_num))
  refine ⟨Select.srch (fun a => Select.tiedBelow ρ T a < 32 - Select.atLeast ρ (T + 1)) 14 14, ?_, hlt _ e1, e1, e2⟩
  have key := fold_keeps (n := k0_t7_loop.trips) (fun k acc => k0_pay9 v t k acc) k0_pay8
    (fun k acc => IntOp.addi (acc (ix2 r 0)) 1#32
      = BitVec.ofNat 32 (Select.srch (fun a => Select.tiedBelow ρ T a < 32 - Select.atLeast ρ (T + 1)) 14 k)) (pay8_at r) ?_
  · exact key.trans (congrArg (fun k => BitVec.ofNat 32
      (Select.srch (fun a => Select.tiedBelow ρ T a < 32 - Select.atLeast ρ (T + 1)) 14 k)) trips7)
  · intro k acc hacc
    have hk : k.val < 14 := lt_of_lt_of_eq k.isLt trips7
    obtain ⟨i1, -, -⟩ := hinv k.val hk.le
    have hs : Select.srch (fun a => Select.tiedBelow ρ T a < 32 - Select.atLeast ρ (T + 1)) 14 (k.val + 1)
        = Select.bit (fun a => Select.tiedBelow ρ T a < 32 - Select.atLeast ρ (T + 1))
            (Select.srch (fun a => Select.tiedBelow ρ T a < 32 - Select.atLeast ρ (T + 1)) 14 k.val) (13 - k.val) := rfl
    rw [hs]
    generalize Select.srch (fun a => Select.tiedBelow ρ T a < 32 - Select.atLeast ρ (T + 1)) 14 k.val = A at hacc i1
    have hA := hlt A i1
    have hp : 2 ^ (13 - k.val) ≤ 2 ^ 13 := Nat.pow_le_pow_right (by norm_num) (by omega)
    have hp1 : 1 ≤ 2 ^ (13 - k.val) := Nat.one_le_two_pow
    obtain ⟨q, hq⟩ : ∃ q, q = 2 ^ (13 - k.val) := ⟨_, rfl⟩
    rw [← hq] at hp hp1
    have hc : IntOp.addi (acc (ix2 r 0)) (Scalar.shli (1#32) (Scalar.subi (13#32) (Scf.iv 0#32 1#32 k.val)))
        = BitVec.ofNat 32 (A + (q - 1)) := by
      rw [shl7 ⟨k.val, hk⟩, BitVec.ofNat_add, ← hacc, ← hq]
      show acc (ix2 r 0) + BitVec.ofNat 32 q = acc (ix2 r 0) + BitVec.ofNat 32 1 + BitVec.ofNat 32 (q - 1)
      rw [BitVec.add_assoc, ← BitVec.ofNat_add, Nat.add_sub_cancel' hp1]
    have hcnt : (cnt fun j => IntOp.andi (k0_pay7 v t (ix2 r j)) (IntOp.cmpi .sle (BitVec.ofNat 32 j.val) (BitVec.ofNat 32 (A + (q - 1)))))
        = BitVec.ofNat 32 (Select.tiedBelow ρ T (A + q)) := by
      unfold cnt Select.tiedBelow
      refine congrArg (fun s : Finset (Fin 16384) => BitVec.ofNat 32 s.card) (Finset.filter_congr fun j _ => ?_)
      have := j.isLt
      beta_reduce
      rw [pay7_row v r ρ hv hρ t T ht hT, WordCmp.cmpi_sle_ofNat (by omega) (by omega), WordCmp.andi_ofBool,
        WordCmp.ofBool_eq_one_iff, Bool.and_eq_true, decide_eq_true_iff, decide_eq_true_iff]
      exact and_congr_right fun _ => by omega
    have hcnt6 : (cnt fun j => k0_pay6 v t (ix2 r j)) = BitVec.ofNat 32 (Select.atLeast ρ (T + 1)) := by
      have := cnt_sgt v r ρ hv hρ T (by omega)
      rw [← this]
      exact congrArg cnt (funext fun j => by rw [pay6_at, ht])
    rw [pay9_at v k t acc r _ hc, hcnt, hcnt6, sub_need ⟨_, h1⟩]
    have := Select.tiedBelow_le ρ T (A + q)
    rw [WordCmp.cmpi_sle_ofNat (by omega) (by show 31 - _ < _; omega)]
    unfold Select.bit
    rw [← hq]
    beta_reduce
    generalize hg : Select.atLeast ρ (T + 1) = g at h1 ⊢
    generalize hcc : Select.tiedBelow ρ T (A + q) = c
    generalize hac : acc (ix2 r 0) = a at hacc ⊢
    clear hcnt hcnt6 hc hcc hac hg
    exact cut_step g c A q a h1 hp1 hacc

end row

/-! ## The selection -/

/-- With one minimum over the rows above zero, every row's count is exactly 32. -/
theorem clean_row (v : IVec S64x16384 32) (t : IVec S64x1 32) (h : clean Ideal v t = 1#1) (r : Fin 64) :
    (cnt fun j => k0_pay2 v t (ix2 r j)) = 32#32 := by
  have h1 : 0 < k0_pay4 (F := Ideal) v t := by
    unfold clean at h
    by_contra hle
    rw [ogt_zero, decide_eq_false hle] at h
    exact absurd h (by decide)
  rw [pay4_at, Finset.lt_fold_min] at h1
  have h2 := h1.2 (r, 0) (Finset.mem_univ _)
  rw [WordCmp.cmpi_eq_eq, select_ofBool] at h2
  by_contra hne
  rw [if_neg hne] at h2
  exact lt_irrefl _ h2

/-- THE SELECTION: of a block's row the kernel keeps, as `(1 - k) + k`, the elements that are among the 32 first, and zero elsewhere. -/
theorem pick_row (kh : X Ideal) (r : Fin 64) (j : Fin 16384) :
    row (pick kh) r j = if Select.Chosen 32 (Select.rk (row kh r)) j then 1 - row kh r j + row kh r j else 0 := by
  have hv := rank_at kh r
  have hρ := Select.rk_lt (row kh r)
  obtain ⟨T, ht, hT, h0, h1⟩ := thr_at (rank kh) r _ hv hρ
  unfold pick
  by_cases hc : clean Ideal (rank kh) (thr (rank kh)) = 1#1
  · rw [if_pos hc]
    have h2 := clean_row _ _ hc r
    have h3 : (cnt fun j => k0_pay2 (rank kh) (thr (rank kh)) (ix2 r j)) = BitVec.ofNat 32 (Select.atLeast (Select.rk (row kh r)) T) := by
      rw [← cnt_sge (rank kh) r _ hv hρ T (by omega)]
      exact congrArg cnt (funext fun j => by rw [pay2_at, ht])
    have h4 : Select.atLeast (Select.rk (row kh r)) T = 32 := by
      have := Select.atLeast_le (Select.rk (row kh r)) T
      exact (WordCmp.ofNat_eq_ofNat_iff (w := 32) (by omega) (by norm_num)).mp (h3.symm.trans h2)
    show k0_pay5 (F := Ideal) kh _ _ (ix2 r j) = _
    rw [pay5_at, pay2_row (rank kh) r _ hv hρ _ T ht hT, select_ofBool]
    exact if_congr (Select.chosen_clean _ T h4 j).symm rfl rfl
  · rw [if_neg hc]
    obtain ⟨a, ha, ha1, ha2, ha3⟩ := cut_at (rank kh) r _ hv hρ _ T ht hT h0 h1
    show k0_pay10 (F := Ideal) kh _ _ _ (ix2 r j) = _
    have := j.isLt
    rw [pay10_at, pay6_row (rank kh) r _ hv hρ _ T ht hT, pay7_row (rank kh) r _ hv hρ _ T ht hT, ha,
      WordCmp.cmpi_sle_ofNat (by omega) (by omega), WordCmp.andi_ofBool, WordCmp.ori_ofBool, ← Bool.decide_and, ← Bool.decide_or, select_ofBool]
    exact if_congr (Select.chosen_cut _ T a h0 h1 ha2 ha3 j).symm rfl rfl

end Cert.KernelIdeal.Hand

end
-- ==== Proof.KernelIdealArray.lean ====
/- Hand-written, untrusted: THE KERNEL'S ARRAY: what the four blocks leave in the result array, row by row, and the host's
   tail after it. -/
module

public import proofs.«01_k».proof.Proof.KernelIdealRun
public import proofs.«01_k».proof.Proof.KernelIdealPick
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe

/-- The soft row that the scores `s` and the noise `g` make of row `R`. -/
def softRow (s g : FVec Ideal S256x16384 .f32) (R : Fin 256) : Fin 16384 → EReal :=
  (Row.chain (fun j => s (ix2 R j) + g (ix2 R j)) 32).kh

/-- An entry of the result array: the soft one made straight through where it is chosen, zero elsewhere. -/
def entry (kh : Fin 16384 → EReal) (j : Fin 16384) : EReal :=
  if Select.Chosen 32 (Select.rk kh) j then 1 - kh j + kh j else 0

/-- The result array. -/
def picked (s g : FVec Ideal S256x16384 .f32) : FVec Ideal S256x16384 .f32 := fun i => entry (softRow s g (i 0)) (i 1)

variable (m : (ℓ : Loc nD τ sig) → Buf (Elt Ideal) ℓ)

/-- The three windows' index maps: block `t` of rows, all the columns. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

/-! Row `r` of block `t` is row `64 t + r` of the array. -/

theorem emb0 (t : Fin cfg0.N) (r : Fin 64) (j : Fin 16384) (h : 64 * t.val + r.val < 256) :
    ((cfg0.win 0).blk t).view.emb (ix2 r j : S64x16384.Idx) = (ix2 ⟨64 * t.val + r.val, h⟩ j : S256x16384.Idx) := by
  funext a; apply Fin.ext
  match a with
  | ⟨0, _⟩ => show win0_0.index t (0 : Fin 2) * 64 + 1 * r.val = 64 * t.val + r.val; rw [idx0]; show t.val * 64 + 1 * r.val = _; omega
  | ⟨1, _⟩ => show win0_0.index t (1 : Fin 2) * 16384 + 1 * j.val = j.val; rw [idx0]; show 0 * 16384 + 1 * j.val = _; omega

theorem emb1 (t : Fin cfg0.N) (r : Fin 64) (j : Fin 16384) (h : 64 * t.val + r.val < 256) :
    ((cfg0.win 1).blk t).view.emb (ix2 r j : S64x16384.Idx) = (ix2 ⟨64 * t.val + r.val, h⟩ j : S256x16384.Idx) := by
  funext a; apply Fin.ext
  match a with
  | ⟨0, _⟩ => show win0_1.index t (0 : Fin 2) * 64 + 1 * r.val = 64 * t.val + r.val; rw [idx1]; show t.val * 64 + 1 * r.val = _; omega
  | ⟨1, _⟩ => show win0_1.index t (1 : Fin 2) * 16384 + 1 * j.val = j.val; rw [idx1]; show 0 * 16384 + 1 * j.val = _; omega

theorem emb2 (t : Fin cfg0.N) (r : Fin 64) (j : Fin 16384) (h : 64 * t.val + r.val < 256) :
    ((cfg0.win 2).blk t).view.emb (ix2 r j : S64x16384.Idx) = (ix2 ⟨64 * t.val + r.val, h⟩ j : S256x16384.Idx) := by
  funext a; apply Fin.ext
  match a with
  | ⟨0, _⟩ => show win0_2.index t (0 : Fin 2) * 64 + 1 * r.val = 64 * t.val + r.val; rw [idx2]; show t.val * 64 + 1 * r.val = _; omega
  | ⟨1, _⟩ => show win0_2.index t (1 : Fin 2) * 16384 + 1 * j.val = j.val; rw [idx2]; show 0 * 16384 + 1 * j.val = _; omega

theorem row_lt (t : Fin cfg0.N) (r : Fin 64) : 64 * t.val + r.val < 256 := by
  have h : t.val < 4 := t.isLt
  have := r.isLt
  omega

theorem read0 (A : FVec Ideal S256x16384 .f32) (t : Fin cfg0.N) (r : Fin 64) (j : Fin 16384) :
    ((cfg0.win 0).blk t).view.read (Elt Ideal) A (ix2 r j : S64x16384.Idx) = A (ix2 ⟨_, row_lt t r⟩ j) :=
  congrArg A (emb0 t r j (row_lt t r))

theorem read1 (A : FVec Ideal S256x16384 .f32) (t : Fin cfg0.N) (r : Fin 64) (j : Fin 16384) :
    ((cfg0.win 1).blk t).view.read (Elt Ideal) A (ix2 r j : S64x16384.Idx) = A (ix2 ⟨_, row_lt t r⟩ j) :=
  congrArg A (emb1 t r j (row_lt t r))

theorem iblk0_row (c : Dev nD) (t : Fin cfg0.N) (r : Fin 64) (j : Fin 16384) :
    row (iblk m c 0 t) r j = (V m c main_v1 : FVec Ideal S256x16384 .f32) (ix2 ⟨_, row_lt t r⟩ j) := by
  unfold iblk row
  exact read0 (V m c main_v1) t r j

theorem iblk1_row (c : Dev nD) (t : Fin cfg0.N) (r : Fin 64) (j : Fin 16384) :
    row (iblk m c 1 t) r j = (V m c main_v9 : FVec Ideal S256x16384 .f32) (ix2 ⟨_, row_lt t r⟩ j) := by
  unfold iblk row
  exact read1 (V m c main_v9) t r j

/-- What a point leaves in its block is that block of the result array. -/
theorem outsAt_row (c : Dev nD) (t : Fin cfg0.N) (r : Fin 64) (j : Fin 16384) :
    row (outsAt m c t) r j = entry (softRow (V m c main_v1) (V m c main_v9) ⟨_, row_lt t r⟩) j := by
  have hk : row (khot (iblk m c 0 t) (iblk m c 1 t)) r = softRow (V m c main_v1) (V m c main_v9) ⟨_, row_lt t r⟩ := by
    rw [khot_row]
    unfold softRow
    exact congrArg (fun f => (Row.chain f 32).kh) (funext fun j => congrArg₂ (· + ·) (iblk0_row m c t r j) (iblk1_row m c t r j))
  unfold outsAt out entry
  rw [pick_row, hk]

theorem outsAt_at (c : Dev nD) (t : Fin cfg0.N) (y : S64x16384.Idx) :
    outsAt m c t y = picked (V m c main_v1) (V m c main_v9) (((cfg0.win 2).blk t).view.emb y) := by
  obtain ⟨r, j, rfl⟩ : ∃ (r : Fin 64) (j : Fin 16384), y = ix2 r j := ⟨y 0, y 1, (ix2_eta y).symm⟩
  rw [emb2 t r j (row_lt t r)]
  exact outsAt_row m c t r j

/-- The result array after the region. -/
theorem arr_eq (c : Dev nD) : (dats m 0 c).arrAt 2 cfg0.N = picked (V m c main_v1) (V m c main_v9) := by
  refine (dats m 0 c).arrAt_eq_of_covers 2 _ (by decide +kernel) fun t hf y => ?_
  have e := congrFun (after0_2 m c t) ((cfg0.win 2).xinj (cfg0.grid.coords t) y)
  have h1 := outsAt_at m c t y
  generalize (dats m 0 c).after 2 t = A at e ⊢
  generalize outsAt m c t = B at e h1
  exact (cast_eq _ _).trans (e.trans h1)

/-- The host's tail: the reshape and the transpose of the array. -/
theorem tail_eq (W : Valuation τ sig (Elt Ideal)) :
    (StableHlo.after hostOps1 W (Proc.devRef .tc main_v12) : FVec Ideal S32x128x128x8 .f32)
      = transpose S32x128x128x8 [0, 2, 3, 1]
          (shapeCast S32x8x128x128 (W (Proc.devRef .tc main_v10) : FVec Ideal S256x16384 .f32) shapeCasts_S256x16384_S32x8x128x128)
          transposes_S32x8x128x128_S32x128x128x8_0_2_3_1 := by
  sl_kernel_rfl

/-- The kernel's result. -/
theorem result_eq (c : Dev nD) :
    (Pipeline.afterTail₀ cfgs (dats m) 0 (V0 m) [hostOps1] c main_v12 : FVec Ideal S32x128x128x8 .f32)
      = transpose S32x128x128x8 [0, 2, 3, 1]
          (shapeCast S32x8x128x128 (picked (V m c main_v1) (V m c main_v9)) shapeCasts_S256x16384_S32x8x128x128)
          transposes_S32x8x128x128_S32x128x128x8_0_2_3_1 := by
  unfold Pipeline.afterTail₀
  refine (tail_eq _).trans ?_
  rw [show (Pipeline.withArrays (cfgs 0).spec c (V0 m c) (fun w => (dats m 0 c).arrAt w (cfgs 0).N) (Proc.devRef .tc main_v10) : FVec Ideal S256x16384 .f32)
      = picked (V m c main_v1) (V m c main_v9) from
    (Pipeline.withArrays_arr spec0 (by decide) c (V0 m c) (fun w => (dats m 0 c).arrAt w (cfgs 0).N) 2).trans (arr_eq m c)]

end Cert.KernelIdeal.Hand

end
-- ==== Proof.Equation.lean ====
/- Hand-written, untrusted: THE EQUATION: on the scores of the precondition the reference's selection is the kernel's, row by row,
   so the two results are one array. -/
module

public import proofs.«01_k».proof.Proof.Entry
public import proofs.«01_k».proof.Proof.KernelIdealArray

@[expose] public section

set_option maxRecDepth 16384

noncomputable section

namespace Cert.Equation

open Idealize.ShloMosaic Idealize.ShloMosaic.TcCoe

/-- An array of the kernel's shape, which is the reference's. -/
abbrev X : Type := FVec Ideal Cert.KernelIdeal.S256x16384 .f32

/-- Where a soft row is real, the reference's entry, which subtracts it and adds it again, is the kernel's. -/
theorem entry_eq (kh : Fin 16384 → EReal) (h : ∀ j, ∃ r : ℝ, kh j = (r : EReal)) (j : Fin 16384) :
    (if Select.Chosen 32 (Select.rk kh) j then 1 - kh j + kh j else 0 - kh j + kh j) = Cert.KernelIdeal.Hand.entry kh j := by
  obtain ⟨r, hr⟩ := h j
  unfold Cert.KernelIdeal.Hand.entry
  rw [hr, Row.zero_sub_add_real]

/-- Good scores and real noise make good logits. -/
theorem good_add (s g : Fin 16384 → EReal) (hs : Row.Good s) (hg : ∀ j, ∃ r : ℝ, g j = (r : EReal)) : Row.Good (fun j => s j + g j) := by
  obtain ⟨h1, k, hk⟩ := hs
  refine ⟨fun j => ?_, k, ?_⟩
  · obtain ⟨r, hr⟩ := hg j
    show s j + g j ≠ ⊤
    rw [hr]
    exact Row.add_real_ne_top r (h1 j)
  · obtain ⟨r, hr⟩ := hg k
    show s k + g k ≠ ⊥
    rw [hr]
    exact Row.add_real_ne_bot r hk

/-- The reference's selection of a soft array whose rows are the chain's is the kernel's array. -/
theorem hard_eq (s g kh : X) (hs : ∀ R, Row.Good (fun j => s (ix2 R j))) (hg : ∀ R j, ∃ r : ℝ, g (ix2 R j) = (r : EReal))
    (hk : ∀ R, Cert.ReferenceIdeal.Hand.row kh R = Cert.KernelIdeal.Hand.softRow s g R) :
    Cert.ReferenceIdeal.Hand.hard kh = Cert.KernelIdeal.Hand.picked s g := by
  funext i
  obtain ⟨R, j, rfl⟩ : ∃ (R : Fin 256) (j : Fin 16384), i = ix2 R j := ⟨i 0, i 1, (ix2_eta i).symm⟩
  have hreal := (Row.chain_good _ (good_add _ _ (hs R) (hg R)) 32).2.2
  have e := Cert.ReferenceIdeal.Hand.hard_row kh R j
  rw [hk R] at e
  exact e.trans (entry_eq _ hreal j)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The noise that the kernel's host leaves. -/
def noise (c : Dev Cert.KernelIdeal.nD) : X := Cert.KernelIdeal.Gen.V m c Cert.KernelIdeal.main_v9

theorem scores_eq (c : Dev Cert.KernelIdeal.nD) :
    (Cert.KernelIdeal.Gen.V m c Cert.KernelIdeal.main_v1 : X) = Scores.rows (m ((c.tc : Thread Cert.KernelIdeal.nD Cert.KernelIdeal.τ).loc Cert.KernelIdeal.main_arg0)) := by
  show (Cert.KernelIdeal.Gen.V0 m c (Proc.devRef .tc Cert.KernelIdeal.main_v1) : X) = _
  rw [Entry.kernel_V0, Entry.kernel_rows]

theorem noise_at (c : Dev Cert.KernelIdeal.nD) (R : Fin 256) (j : Fin 16384) : ∃ r : ℝ, noise m c (ix2 R j) = (r : EReal) := by
  have h : noise m c = (StableHlo.after Cert.KernelIdeal.Gen.hostOps0_1 (StableHlo.after Cert.KernelIdeal.Gen.hostOps0 (fun b => m (c, b)))
      (Proc.devRef .tc Cert.KernelIdeal.main_v9) : X) := by
    show (Cert.KernelIdeal.Gen.V0 m c (Proc.devRef .tc Cert.KernelIdeal.main_v9) : X) = _
    rw [Entry.kernel_V0]
  rw [h]
  exact Noise.noise_real _ R j

open Cert.ReferenceIdeal Cert.ReferenceIdeal.Gen Cert.ReferenceIdeal.Value Cert.ReferenceIdeal.Hand in
/-- A row of the reference's soft array after its 32 trips. -/
theorem reference_row (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (R : Fin 256) :
    row (vk (STEP^[32] (StableHlo.entryContents preI m' c))) R
      = Cert.KernelIdeal.Hand.softRow (Scores.rows (m ((c.tc : Thread Cert.KernelIdeal.nD Cert.KernelIdeal.τ).loc Cert.KernelIdeal.main_arg0))) (noise m c) R := by
  have hs : (StableHlo.after hostOps0_1 (StableHlo.after hostOps0 (StableHlo.launchContents m' c)) (Proc.devRef .tc main_v1) : X)
      = Scores.rows (m ((c.tc : Thread Cert.KernelIdeal.nD Cert.KernelIdeal.τ).loc Cert.KernelIdeal.main_arg0)) :=
    (Entry.reference_rows _).trans (congrArg Scores.rows hm)
  have hg : (StableHlo.after hostOps0_1 (StableHlo.after hostOps0 (StableHlo.launchContents m' c)) (Proc.devRef .tc main_v9) : X) = noise m c := by
    show _ = (Cert.KernelIdeal.Gen.V0 m c (Proc.devRef .tc Cert.KernelIdeal.main_v9) : X)
    rw [Entry.kernel_V0]
    exact (Noise.noise_eq _ _).symm
  have h0 := Entry.start_row _ _ _ hs hg R
  have h32 := rowSt_iter _ R _ h0 32
  have he : StableHlo.entryContents preI m' c
      = StableHlo.after hostOps0_2 (StableHlo.after hostOps0_1 (StableHlo.after hostOps0 (StableHlo.launchContents m' c))) := by
    simp only [StableHlo.entryContents, StableHlo.afterL_cons, StableHlo.afterL_nil]
  have hk : ∀ W : Vals, row (vk W) R = (rowSt W R).kh := fun _ => rfl
  rw [he, hk, h32]
  rfl

end Cert.Equation

end
-- ==== Proof.Results.lean ====
/- Hand-written, untrusted: THE TWO RUNS TO ONE RESULT: each program's run, read at its result. -/
module

public import proofs.«01_k».proof.Proof.Equation

@[expose] public section

set_option maxRecDepth 16384

noncomputable section

namespace Cert.Results

open Idealize.ShloMosaic Idealize.ShloMosaic.TcCoe Idealize.SL.Sem

/-- The result: the selection of every row, at the place of its image. -/
def result (s g : Equation.X) : FVec Ideal Cert.KernelIdeal.S32x128x128x8 .f32 :=
  transpose Cert.KernelIdeal.S32x128x128x8 [0, 2, 3, 1]
    (shapeCast Cert.KernelIdeal.S32x8x128x128 (Cert.KernelIdeal.Hand.picked s g) Cert.KernelIdeal.Gen.shapeCasts_S256x16384_S32x8x128x128)
    Cert.KernelIdeal.Gen.transposes_S32x8x128x128_S32x128x128x8_0_2_3_1

variable (m : (ℓ : Loc Cert.KernelIdeal.nD Cert.KernelIdeal.τ Cert.KernelIdeal.sig) → Buf (Elt Ideal) ℓ)

/-- The scores that the argument holds, by rows. -/
def scores (c : Dev Cert.KernelIdeal.nD) : Equation.X :=
  Scores.rows (m ((c.tc : Thread Cert.KernelIdeal.nD Cert.KernelIdeal.τ).loc Cert.KernelIdeal.main_arg0))

open Cert.KernelIdeal Cert.KernelIdeal.Gen Cert.KernelIdeal.Hand in
/-- The kernel ends with that result. -/
theorem kernel_result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = result (scores m c) (Equation.noise m c)
      ∧ r.2.mem ((c.tc : Thread nD τ).loc main_arg0) = m ((c.tc : Thread nD τ).loc main_arg0)) := by
  refine (θ_run _ _ _).mono (fun r h c => ⟨?_, ?_⟩) (run_main m ρ)
  · refine ((h.1 c).2 main_v12 (Pipeline.mem_restRefs_of main_v12 (by decide) (by decide))).trans ((result_eq m c).trans ?_)
    rw [Equation.scores_eq]
    rfl
  · exact ((h.1 c).2 main_arg0 (Pipeline.mem_restRefs_of main_arg0 (by decide) (by decide))).trans (W_main_arg0 m (dats m) c)

variable (m' : (ℓ : Loc Cert.ReferenceIdeal.nD Cert.ReferenceIdeal.τ Cert.ReferenceIdeal.sig) → Buf (Elt Ideal) ℓ)

open Cert.ReferenceIdeal Cert.ReferenceIdeal.Gen Cert.ReferenceIdeal.Value Cert.ReferenceIdeal.Hand in
/-- So does the reference, from the same scores under the precondition. -/
theorem reference_result (ρ : Dev nD → PrngReg)
    (hx : ∀ c R, Row.Good (fun j => scores m c (ix2 R j)))
    (hm : ∀ c : Dev nD, m' ((c.tc : Thread nD τ).loc main_arg0) = m ((c.tc : Thread Cert.KernelIdeal.nD Cert.KernelIdeal.τ).loc Cert.KernelIdeal.main_arg0)) :
    θ_run (defs (F := Ideal)) (onTc (τ := τ) (main (F := Ideal))) ⟨m', fun _ => 0, ρ⟩ (fun r => ∀ c : Dev nD,
      r.2.mem ((c.tc : Thread nD τ).loc main_v25) = result (scores m c) (Equation.noise m c)
      ∧ r.2.mem ((c.tc : Thread nD τ).loc main_arg0) = m' ((c.tc : Thread nD τ).loc main_arg0)) := by
  refine (θ_run _ _ _).mono (fun r h c => ⟨(h c).1.trans ?_, (h c).2⟩) (Cert.ReferenceIdeal.Value.run m' ρ)
  have hk := Equation.hard_eq (scores m c) (Equation.noise m c) (vk (STEP^[32] (StableHlo.entryContents preI m' c))) (hx c)
    (Equation.noise_at m c) (fun R => Equation.reference_row m m' c (hm c) R)
  refine (out_eq _).trans ?_
  rw [hk]
  rfl

end Cert.Results

end
-- ==== Proof.lean ====
module

public import proofs.«01_k».proof.Defs
public import proofs.«01_k».proof.Proof.KernelRun
public import proofs.«01_k».proof.Proof.KernelIdealRun
public import proofs.«01_k».proof.Proof.Results
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its argument unchanged and every counter at zero. -/
theorem reference_quiescent (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem ((c.tc : Thread _ _).loc Cert.ReferenceIdeal.main_arg0) = m ((c.tc : Thread _ _).loc Cert.ReferenceIdeal.main_arg0))
      ∧ r.2.sem = fun _ => 0) := by
  refine (θ_run _ _ _).mono (fun r h => ⟨fun c => (h c).2, sem_eq_zero_of_no_sems (by decide) _⟩) (Cert.ReferenceIdeal.Value.run m ρ)

/-- The two results are one array, under the precondition. -/
theorem algebraic : @Cert.algebraic_KernelIdeal_ReferenceIdeal_pre_rows_have_a_finite_maximum Cert.KernelIdeal.Gen.facts Cert.ReferenceIdeal.Gen.facts
    Cert.Scores.pre_facts := fun m ρ m' ρ' hp hm =>
  ⟨fun c => Cert.Results.result (Cert.Results.scores m c) (Cert.Equation.noise m c), Cert.Results.kernel_result m ρ,
    Cert.Results.reference_result m m' ρ' (fun c R => Cert.Scores.rows_finite _ (hp c) R) hm⟩

theorem claim : Cert.Claim := ⟨Cert.Kernel.Gen.facts, Cert.KernelIdeal.Gen.facts, Cert.ReferenceIdeal.Gen.facts, Cert.Scores.pre_facts,
  fun m ρ _ => Cert.Kernel.Hand.quiescent m ρ, fun m ρ _ => Cert.KernelIdeal.Hand.quiescent m ρ, fun m ρ _ => Cert.KernelIdeal.Hand.quiescent m ρ,
  fun m ρ _ => reference_quiescent m ρ, fun m ρ _ => reference_quiescent m ρ, trivial, algebraic⟩

end Cert.Proof

end
